-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1536x4096 : Shape := ⟨3, ![2, 1536, 4096]⟩
abbrev S4096x7168 : Shape := ⟨2, ![4096, 7168]⟩
abbrev S14336x16 : Shape := ⟨2, ![14336, 16]⟩
abbrev S3072x4096 : Shape := ⟨2, ![3072, 4096]⟩
abbrev S16x14336 : Shape := ⟨2, ![16, 14336]⟩
abbrev S3072x14336 : Shape := ⟨2, ![3072, 14336]⟩
abbrev S4096x256 : Shape := ⟨2, ![4096, 256]⟩
abbrev S16x512 : Shape := ⟨2, ![16, 512]⟩
abbrev S3072x512 : Shape := ⟨2, ![3072, 512]⟩
abbrev S4096x512 : Shape := ⟨2, ![4096, 512]⟩
abbrev S256x128 : Shape := ⟨2, ![256, 128]⟩
abbrev S64x128 : Shape := ⟨2, ![64, 128]⟩
abbrev S64x128x1 : Shape := ⟨3, ![64, 128, 1]⟩
abbrev S1x128 : Shape := ⟨2, ![1, 128]⟩
abbrev S512x4096 : Shape := ⟨2, ![512, 4096]⟩
abbrev S512x512 : Shape := ⟨2, ![512, 512]⟩
abbrev S2x1536x14336 : Shape := ⟨3, ![2, 1536, 14336]⟩

abbrev nBuf : Space → Nat
  | .hbm => 7
  | .vmem => 8
  | .smem => 0
  | _ => 0

abbrev bufTy : (tb : Table) → Fin (tcTables nBuf tb) → BufTy
  | .hbm, ⟨0, _⟩ => ⟨S2x1536x4096, .bf16⟩
  | .hbm, ⟨1, _⟩ => ⟨S4096x7168, .i8⟩
  | .hbm, ⟨2, _⟩ => ⟨S14336x16, .bf16⟩
  | .hbm, ⟨3, _⟩ => ⟨S3072x4096, .bf16⟩
  | .hbm, ⟨4, _⟩ => ⟨S16x14336, .bf16⟩
  | .hbm, ⟨5, _⟩ => ⟨S3072x14336, .bf16⟩
  | .hbm, ⟨6, _⟩ => ⟨S2x1536x14336, .bf16⟩
  | .local _ .vmem, ⟨0, _⟩ => ⟨S3072x4096, .bf16⟩
  | .local _ .vmem, ⟨1, _⟩ => ⟨S4096x256, .i8⟩
  | .local _ .vmem, ⟨2, _⟩ => ⟨S4096x256, .i8⟩
  | .local _ .vmem, ⟨3, _⟩ => ⟨S16x512, .bf16⟩
  | .local _ .vmem, ⟨4, _⟩ => ⟨S16x512, .bf16⟩
  | .local _ .vmem, ⟨5, _⟩ => ⟨S3072x512, .bf16⟩
  | .local _ .vmem, ⟨6, _⟩ => ⟨S3072x512, .bf16⟩
  | .local _ .vmem, ⟨7, _⟩ => ⟨S4096x512, .bf16⟩
  | _, _ => ⟨S2x1536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![28], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c256_i32 : BitVec 32 := 256#32
  let v2 : BitVec 32 := Scalar.muli arg6 c256_i32
  let v3 : Index := Scalar.indexCast v2
  let c0 : Index := 0#32
  ![v3.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c256_i32 : BitVec 32 := 256#32
  let v2 : BitVec 32 := Scalar.muli arg6 c256_i32
  let v140 : Index := Scalar.indexCast v2
  let c0_32 : Index := 0#32
  ![v140.toNat, 0]
def k0_off3 (k0_t1 : Fin k0_t1_loop.trips) : Fin 2 → Nat :=
  let c0_i32 : BitVec 32 := 0#32
  let c1_i32 : BitVec 32 := 1#32
  let arg6 : BitVec 32 := Scf.iv c0_i32 c1_i32 k0_t1
  let c256_i32 : BitVec 32 := 256#32
  let v2 : BitVec 32 := Scalar.muli arg6 c256_i32
  let v239 : Index := Scalar.indexCast v2
  let c128_72 : Index := 128#32
  ![v239.toNat, 128]
def k0_off4 (k0_t1 : Fin k0_t1_loop.trips) : Fin 2 → Nat :=
  let c0_i32 : BitVec 32 := 0#32
  let c1_i32 : BitVec 32 := 1#32
  let arg6 : BitVec 32 := Scf.iv c0_i32 c1_i32 k0_t1
  let c256_i32 : BitVec 32 := 256#32
  let v2 : BitVec 32 := Scalar.muli arg6 c256_i32
  let v243 : Index := Scalar.indexCast v2
  let c128_73 : Index := 128#32
  ![v243.toNat, 128]
def k0_off5 (k0_t1 : Fin k0_t1_loop.trips) : Fin 2 → Nat :=
  let c0_i32 : BitVec 32 := 0#32
  let c1_i32 : BitVec 32 := 1#32
  let arg6 : BitVec 32 := Scf.iv c0_i32 c1_i32 k0_t1
  let c256_i32 : BitVec 32 := 256#32
  let v2 : BitVec 32 := Scalar.muli arg6 c256_i32
  let v380 : Index := Scalar.indexCast v2
  let c256_125 : Index := 256#32
  ![v380.toNat, 256]
def k0_off6 (k0_t1 : Fin k0_t1_loop.trips) : Fin 2 → Nat :=
  let c0_i32 : BitVec 32 := 0#32
  let c1_i32 : BitVec 32 := 1#32
  let arg6 : BitVec 32 := Scf.iv c0_i32 c1_i32 k0_t1
  let c256_i32 : BitVec 32 := 256#32
  let v2 : BitVec 32 := Scalar.muli arg6 c256_i32
  let v479 : Index := Scalar.indexCast v2
  let c384_165 : Index := 384#32
  ![v479.toNat, 384]
@[reducible] def k0_t2_loop : Scf.Loop 32 :=
  let c0_i32_1 : BitVec 32 := 0#32
  let c6_i32 : BitVec 32 := 6#32
  let v1 : BitVec 32 := Scalar.addi c0_i32_1 c6_i32
  let c1_i32_2 : BitVec 32 := 1#32
  ⟨c0_i32_1, v1, c1_i32_2⟩
def k0_off7 (k0_t2 : Fin k0_t2_loop.trips) : Fin 2 → Nat :=
  let c0_i32_1 : BitVec 32 := 0#32
  let c1_i32_2 : BitVec 32 := 1#32
  let arg6 : BitVec 32 := Scf.iv c0_i32_1 c1_i32_2 k0_t2
  let c512_i32 : BitVec 32 := 512#32
  let v2 : BitVec 32 := Scalar.muli arg6 c512_i32
  let v3 : Index := Scalar.indexCast v2
  let c0 : Index := 0#32
  ![v3.toNat, 0]
def k0_off8 (k0_t2 : Fin k0_t2_loop.trips) : Fin 2 → Nat :=
  let c0_i32_1 : BitVec 32 := 0#32
  let c1_i32_2 : BitVec 32 := 1#32
  let arg6 : BitVec 32 := Scf.iv c0_i32_1 c1_i32_2 k0_t2
  let c512_i32 : BitVec 32 := 512#32
  let v2 : BitVec 32 := Scalar.muli arg6 c512_i32
  let v9 : Index := Scalar.indexCast v2
  let c0_6 : Index := 0#32
  ![v9.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S3072x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3072x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2x1536x4096 : Shape := ⟨3, ![2, 1536, 4096]⟩
abbrev S4096x7168 : Shape := ⟨2, ![4096, 7168]⟩
abbrev S14336x16 : Shape := ⟨2, ![14336, 16]⟩
abbrev S_ : Shape := ⟨0, ![]⟩
abbrev S7168x16 : Shape := ⟨2, ![7168, 16]⟩
abbrev S16x7168 : Shape := ⟨2, ![16, 7168]⟩
abbrev S1x7168 : Shape := ⟨2, ![1, 7168]⟩
abbrev S2x1536x7168 : Shape := ⟨3, ![2, 1536, 7168]⟩
abbrev S2x1536x7168x1 : Shape := ⟨4, ![2, 1536, 7168, 1]⟩
abbrev S2x1536x7168x2 : Shape := ⟨4, ![2, 1536, 7168, 2]⟩
abbrev S2x1536x14336 : Shape := ⟨3, ![2, 1536, 14336]⟩

abbrev nBuf : Space → Nat
  | .hbm => 188
  | .vmem => 0
  | .smem => 0
  | _ => 0

abbrev hbmTy0_0 (i : Nat) : BufTy := match i % 128 with
  | 0 => ⟨S2x1536x4096, .bf16⟩
  | 1 => ⟨S4096x7168, .i8⟩
  | 2 => ⟨S14336x16, .bf16⟩
  | 3 => ⟨S4096x7168, .i32⟩
  | 4 => ⟨S_, .i32⟩
  | 5 => ⟨S4096x7168, .i32⟩
  | 6 => ⟨S4096x7168, .i32⟩
  | 7 => ⟨S4096x7168, .i32⟩
  | 8 => ⟨S_, .i32⟩
  | 9 => ⟨S4096x7168, .i32⟩
  | 10 => ⟨S4096x7168, .i32⟩
  | 11 => ⟨S7168x16, .bf16⟩
  | 12 => ⟨S16x7168, .bf16⟩
  | 13 => ⟨S1x7168, .bf16⟩
  | 14 => ⟨S1x7168, .bf16⟩
  | 15 => ⟨S1x7168, .bf16⟩
  | 16 => ⟨S1x7168, .bf16⟩
  | 17 => ⟨S1x7168, .bf16⟩
  | 18 => ⟨S1x7168, .bf16⟩
  | 19 => ⟨S1x7168, .bf16⟩
  | 20 => ⟨S1x7168, .bf16⟩
  | 21 => ⟨S1x7168, .bf16⟩
  | 22 => ⟨S1x7168, .bf16⟩
  | 23 => ⟨S1x7168, .bf16⟩
  | 24 => ⟨S1x7168, .bf16⟩
  | 25 => ⟨S1x7168, .bf16⟩
  | 26 => ⟨S1x7168, .bf16⟩
  | 27 => ⟨S1x7168, .bf16⟩
  | 28 => ⟨S1x7168, .bf16⟩
  | 29 => ⟨S_, .i32⟩
  | 30 => ⟨S4096x7168, .i32⟩
  | 31 => ⟨S4096x7168, .i32⟩
  | 32 => ⟨S_, .i32⟩
  | 33 => ⟨S4096x7168, .i32⟩
  | 34 => ⟨S4096x7168, .i32⟩
  | 35 => ⟨S_, .i32⟩
  | 36 => ⟨S4096x7168, .i32⟩
  | 37 => ⟨S4096x7168, .i1⟩
  | 38 => ⟨S4096x7168, .bf16⟩
  | 39 => ⟨S4096x7168, .bf16⟩
  | 40 => ⟨S4096x7168, .bf16⟩
  | 41 => ⟨S4096x7168, .bf16⟩
  | 42 => ⟨S4096x7168, .bf16⟩
  | 43 => ⟨S4096x7168, .bf16⟩
  | 44 => ⟨S4096x7168, .bf16⟩
  | 45 => ⟨S4096x7168, .bf16⟩
  | 46 => ⟨S4096x7168, .bf16⟩
  | 47 => ⟨S4096x7168, .bf16⟩
  | 48 => ⟨S4096x7168, .bf16⟩
  | 49 => ⟨S4096x7168, .bf16⟩
  | 50 => ⟨S4096x7168, .bf16⟩
  | 51 => ⟨S4096x7168, .bf16⟩
  | 52 => ⟨S4096x7168, .bf16⟩
  | 53 => ⟨S4096x7168, .bf16⟩
  | 54 => ⟨S4096x7168, .bf16⟩
  | 55 => ⟨S4096x7168, .bf16⟩
  | 56 => ⟨S4096x7168, .bf16⟩
  | 57 => ⟨S4096x7168, .bf16⟩
  | 58 => ⟨S4096x7168, .bf16⟩
  | 59 => ⟨S4096x7168, .bf16⟩
  | 60 => ⟨S4096x7168, .bf16⟩
  | 61 => ⟨S4096x7168, .bf16⟩
  | 62 => ⟨S_, .i32⟩
  | 63 => ⟨S4096x7168, .i32⟩
  | 64 => ⟨S4096x7168, .i32⟩
  | 65 => ⟨S_, .i32⟩
  | 66 => ⟨S4096x7168, .i32⟩
  | 67 => ⟨S4096x7168, .i32⟩
  | 68 => ⟨S_, .i32⟩
  | 69 => ⟨S4096x7168, .i32⟩
  | 70 => ⟨S4096x7168, .i1⟩
  | 71 => ⟨S4096x7168, .bf16⟩
  | 72 => ⟨S4096x7168, .bf16⟩
  | 73 => ⟨S4096x7168, .bf16⟩
  | 74 => ⟨S4096x7168, .bf16⟩
  | 75 => ⟨S_, .i32⟩
  | 76 => ⟨S4096x7168, .i32⟩
  | 77 => ⟨S4096x7168, .i32⟩
  | 78 => ⟨S_, .i32⟩
  | 79 => ⟨S4096x7168, .i32⟩
  | 80 => ⟨S4096x7168, .i32⟩
  | 81 => ⟨S_, .i32⟩
  | 82 => ⟨S4096x7168, .i32⟩
  | 83 => ⟨S4096x7168, .i1⟩
  | 84 => ⟨S4096x7168, .bf16⟩
  | 85 => ⟨S4096x7168, .bf16⟩
  | 86 => ⟨S_, .i32⟩
  | 87 => ⟨S4096x7168, .i32⟩
  | 88 => ⟨S4096x7168, .i32⟩
  | 89 => ⟨S_, .i32⟩
  | 90 => ⟨S4096x7168, .i32⟩
  | 91 => ⟨S4096x7168, .i32⟩
  | 92 => ⟨S_, .i32⟩
  | 93 => ⟨S4096x7168, .i32⟩
  | 94 => ⟨S4096x7168, .i1⟩
  | 95 => ⟨S4096x7168, .bf16⟩
  | 96 => ⟨S7168x16, .bf16⟩
  | 97 => ⟨S16x7168, .bf16⟩
  | 98 => ⟨S1x7168, .bf16⟩
  | 99 => ⟨S1x7168, .bf16⟩
  | 100 => ⟨S1x7168, .bf16⟩
  | 101 => ⟨S1x7168, .bf16⟩
  | 102 => ⟨S1x7168, .bf16⟩
  | 103 => ⟨S1x7168, .bf16⟩
  | 104 => ⟨S1x7168, .bf16⟩
  | 105 => ⟨S1x7168, .bf16⟩
  | 106 => ⟨S1x7168, .bf16⟩
  | 107 => ⟨S1x7168, .bf16⟩
  | 108 => ⟨S1x7168, .bf16⟩
  | 109 => ⟨S1x7168, .bf16⟩
  | 110 => ⟨S1x7168, .bf16⟩
  | 111 => ⟨S1x7168, .bf16⟩
  | 112 => ⟨S1x7168, .bf16⟩
  | 113 => ⟨S1x7168, .bf16⟩
  | 114 => ⟨S_, .i32⟩
  | 115 => ⟨S4096x7168, .i32⟩
  | 116 => ⟨S4096x7168, .i32⟩
  | 117 => ⟨S_, .i32⟩
  | 118 => ⟨S4096x7168, .i32⟩
  | 119 => ⟨S4096x7168, .i32⟩
  | 120 => ⟨S_, .i32⟩
  | 121 => ⟨S4096x7168, .i32⟩
  | 122 => ⟨S4096x7168, .i1⟩
  | 123 => ⟨S4096x7168, .bf16⟩
  | 124 => ⟨S4096x7168, .bf16⟩
  | 125 => ⟨S4096x7168, .bf16⟩
  | 126 => ⟨S4096x7168, .bf16⟩
  | 127 => ⟨S4096x7168, .bf16⟩
  | _ => ⟨S2x1536x4096, .bf16⟩

abbrev hbmTy0_1 (i : Nat) : BufTy := match i % 128 with
  | 0 => ⟨S4096x7168, .bf16⟩
  | 1 => ⟨S4096x7168, .bf16⟩
  | 2 => ⟨S4096x7168, .bf16⟩
  | 3 => ⟨S4096x7168, .bf16⟩
  | 4 => ⟨S4096x7168, .bf16⟩
  | 5 => ⟨S4096x7168, .bf16⟩
  | 6 => ⟨S4096x7168, .bf16⟩
  | 7 => ⟨S4096x7168, .bf16⟩
  | 8 => ⟨S4096x7168, .bf16⟩
  | 9 => ⟨S4096x7168, .bf16⟩
  | 10 => ⟨S4096x7168, .bf16⟩
  | 11 => ⟨S4096x7168, .bf16⟩
  | 12 => ⟨S4096x7168, .bf16⟩
  | 13 => ⟨S4096x7168, .bf16⟩
  | 14 => ⟨S4096x7168, .bf16⟩
  | 15 => ⟨S4096x7168, .bf16⟩
  | 16 => ⟨S4096x7168, .bf16⟩
  | 17 => ⟨S4096x7168, .bf16⟩
  | 18 => ⟨S4096x7168, .bf16⟩
  | 19 => ⟨S_, .i32⟩
  | 20 => ⟨S4096x7168, .i32⟩
  | 21 => ⟨S4096x7168, .i32⟩
  | 22 => ⟨S_, .i32⟩
  | 23 => ⟨S4096x7168, .i32⟩
  | 24 => ⟨S4096x7168, .i32⟩
  | 25 => ⟨S_, .i32⟩
  | 26 => ⟨S4096x7168, .i32⟩
  | 27 => ⟨S4096x7168, .i1⟩
  | 28 => ⟨S4096x7168, .bf16⟩
  | 29 => ⟨S4096x7168, .bf16⟩
  | 30 => ⟨S4096x7168, .bf16⟩
  | 31 => ⟨S4096x7168, .bf16⟩
  | 32 => ⟨S_, .i32⟩
  | 33 => ⟨S4096x7168, .i32⟩
  | 34 => ⟨S4096x7168, .i32⟩
  | 35 => ⟨S_, .i32⟩
  | 36 => ⟨S4096x7168, .i32⟩
  | 37 => ⟨S4096x7168, .i32⟩
  | 38 => ⟨S_, .i32⟩
  | 39 => ⟨S4096x7168, .i32⟩
  | 40 => ⟨S4096x7168, .i1⟩
  | 41 => ⟨S4096x7168, .bf16⟩
  | 42 => ⟨S4096x7168, .bf16⟩
  | 43 => ⟨S_, .i32⟩
  | 44 => ⟨S4096x7168, .i32⟩
  | 45 => ⟨S4096x7168, .i32⟩
  | 46 => ⟨S_, .i32⟩
  | 47 => ⟨S4096x7168, .i32⟩
  | 48 => ⟨S4096x7168, .i32⟩
  | 49 => ⟨S_, .i32⟩
  | 50 => ⟨S4096x7168, .i32⟩
  | 51 => ⟨S4096x7168, .i1⟩
  | 52 => ⟨S4096x7168, .bf16⟩
  | 53 => ⟨S2x1536x7168, .f32⟩
  | 54 => ⟨S2x1536x7168, .f32⟩
  | 55 => ⟨S2x1536x7168x1, .f32⟩
  | 56 => ⟨S2x1536x7168x1, .f32⟩
  | 57 => ⟨S2x1536x7168x2, .f32⟩
  | 58 => ⟨S2x1536x14336, .f32⟩
  | 59 => ⟨S2x1536x14336, .bf16⟩
  | _ => ⟨S2x1536x4096, .bf16⟩

abbrev hbmTy (i : Nat) : BufTy := match i / 128 with
  | 0 => hbmTy0_0 i
  | 1 => hbmTy0_1 i
  | _ => ⟨S2x1536x4096, .bf16⟩

abbrev bufTy : (tb : Table) → Fin (tcTables nBuf tb) → BufTy
  | .hbm, ⟨i, _⟩ => hbmTy i
  | _, _ => ⟨S2x1536x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_c_1 : Ref sig .tc := ⟨.hbm, 29, rfl⟩
abbrev main_v24 : Ref sig .tc := ⟨.hbm, 30, rfl⟩
abbrev main_v25 : Ref sig .tc := ⟨.hbm, 31, rfl⟩
abbrev main_c_2 : Ref sig .tc := ⟨.hbm, 32, rfl⟩
abbrev main_v26 : Ref sig .tc := ⟨.hbm, 33, rfl⟩
abbrev main_v27 : Ref sig .tc := ⟨.hbm, 34, rfl⟩
abbrev main_c_3 : Ref sig .tc := ⟨.hbm, 35, rfl⟩
abbrev main_v28 : Ref sig .tc := ⟨.hbm, 36, rfl⟩
abbrev main_v29 : Ref sig .tc := ⟨.hbm, 37, rfl⟩
abbrev main_call0_v0 : Ref sig .tc := ⟨.hbm, 38, rfl⟩
abbrev main_call0_v1 : Ref sig .tc := ⟨.hbm, 39, rfl⟩
abbrev main_v30 : Ref sig .tc := ⟨.hbm, 40, rfl⟩
abbrev main_call1_v0 : Ref sig .tc := ⟨.hbm, 41, rfl⟩
abbrev main_call1_v1 : Ref sig .tc := ⟨.hbm, 42, rfl⟩
abbrev main_v31 : Ref sig .tc := ⟨.hbm, 43, rfl⟩
abbrev main_call2_v0 : Ref sig .tc := ⟨.hbm, 44, rfl⟩
abbrev main_call2_v1 : Ref sig .tc := ⟨.hbm, 45, rfl⟩
abbrev main_v32 : Ref sig .tc := ⟨.hbm, 46, rfl⟩
abbrev main_call3_v0 : Ref sig .tc := ⟨.hbm, 47, rfl⟩
abbrev main_call3_v1 : Ref sig .tc := ⟨.hbm, 48, rfl⟩
abbrev main_v33 : Ref sig .tc := ⟨.hbm, 49, rfl⟩
abbrev main_call4_v0 : Ref sig .tc := ⟨.hbm, 50, rfl⟩
abbrev main_call4_v1 : Ref sig .tc := ⟨.hbm, 51, rfl⟩
abbrev main_v34 : Ref sig .tc := ⟨.hbm, 52, rfl⟩
abbrev main_call5_v0 : Ref sig .tc := ⟨.hbm, 53, rfl⟩
abbrev main_call5_v1 : Ref sig .tc := ⟨.hbm, 54, rfl⟩
abbrev main_v35 : Ref sig .tc := ⟨.hbm, 55, rfl⟩
abbrev main_call6_v0 : Ref sig .tc := ⟨.hbm, 56, rfl⟩
abbrev main_call6_v1 : Ref sig .tc := ⟨.hbm, 57, rfl⟩
abbrev main_v36 : Ref sig .tc := ⟨.hbm, 58, rfl⟩
abbrev main_call7_v0 : Ref sig .tc := ⟨.hbm, 59, rfl⟩
abbrev main_call7_v1 : Ref sig .tc := ⟨.hbm, 60, rfl⟩
abbrev main_v37 : Ref sig .tc := ⟨.hbm, 61, rfl⟩
abbrev main_c_4 : Ref sig .tc := ⟨.hbm, 62, rfl⟩
abbrev main_v38 : Ref sig .tc := ⟨.hbm, 63, rfl⟩
abbrev main_v39 : Ref sig .tc := ⟨.hbm, 64, rfl⟩
abbrev main_c_5 : Ref sig .tc := ⟨.hbm, 65, rfl⟩
abbrev main_v40 : Ref sig .tc := ⟨.hbm, 66, rfl⟩
abbrev main_v41 : Ref sig .tc := ⟨.hbm, 67, rfl⟩
abbrev main_c_6 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_c_7 : Ref sig .tc := ⟨.hbm, 75, rfl⟩
abbrev main_v48 : Ref sig .tc := ⟨.hbm, 76, rfl⟩
abbrev main_v49 : Ref sig .tc := ⟨.hbm, 77, rfl⟩
abbrev main_c_8 : Ref sig .tc := ⟨.hbm, 78, rfl⟩
abbrev main_v50 : Ref sig .tc := ⟨.hbm, 79, rfl⟩
abbrev main_v51 : Ref sig .tc := ⟨.hbm, 80, rfl⟩
abbrev main_c_9 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_10 : Ref sig .tc := ⟨.hbm, 86, rfl⟩
abbrev main_v56 : Ref sig .tc := ⟨.hbm, 87, rfl⟩
abbrev main_v57 : Ref sig .tc := ⟨.hbm, 88, rfl⟩
abbrev main_c_11 : Ref sig .tc := ⟨.hbm, 89, rfl⟩
abbrev main_v58 : Ref sig .tc := ⟨.hbm, 90, rfl⟩
abbrev main_v59 : Ref sig .tc := ⟨.hbm, 91, rfl⟩
abbrev main_c_12 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_13 : Ref sig .tc := ⟨.hbm, 114, rfl⟩
abbrev main_v81 : Ref sig .tc := ⟨.hbm, 115, rfl⟩
abbrev main_v82 : Ref sig .tc := ⟨.hbm, 116, rfl⟩
abbrev main_c_14 : Ref sig .tc := ⟨.hbm, 117, rfl⟩
abbrev main_v83 : Ref sig .tc := ⟨.hbm, 118, rfl⟩
abbrev main_v84 : Ref sig .tc := ⟨.hbm, 119, rfl⟩
abbrev main_c_15 : Ref sig .tc := ⟨.hbm, 120, rfl⟩
abbrev main_v85 : Ref sig .tc := ⟨.hbm, 121, rfl⟩
abbrev main_v86 : Ref sig .tc := ⟨.hbm, 122, rfl⟩
abbrev main_call15_v0 : Ref sig .tc := ⟨.hbm, 123, rfl⟩
abbrev main_call15_v1 : Ref sig .tc := ⟨.hbm, 124, rfl⟩
abbrev main_v87 : Ref sig .tc := ⟨.hbm, 125, rfl⟩
abbrev main_call16_v0 : Ref sig .tc := ⟨.hbm, 126, rfl⟩
abbrev main_call16_v1 : Ref sig .tc := ⟨.hbm, 127, rfl⟩
abbrev main_v88 : Ref sig .tc := ⟨.hbm, 128, rfl⟩
abbrev main_call17_v0 : Ref sig .tc := ⟨.hbm, 129, rfl⟩
abbrev main_call17_v1 : Ref sig .tc := ⟨.hbm, 130, rfl⟩
abbrev main_v89 : Ref sig .tc := ⟨.hbm, 131, rfl⟩
abbrev main_call18_v0 : Ref sig .tc := ⟨.hbm, 132, rfl⟩
abbrev main_call18_v1 : Ref sig .tc := ⟨.hbm, 133, rfl⟩
abbrev main_v90 : Ref sig .tc := ⟨.hbm, 134, rfl⟩
abbrev main_call19_v0 : Ref sig .tc := ⟨.hbm, 135, rfl⟩
abbrev main_call19_v1 : Ref sig .tc := ⟨.hbm, 136, rfl⟩
abbrev main_v91 : Ref sig .tc := ⟨.hbm, 137, rfl⟩
abbrev main_call20_v0 : Ref sig .tc := ⟨.hbm, 138, rfl⟩
abbrev main_call20_v1 : Ref sig .tc := ⟨.hbm, 139, rfl⟩
abbrev main_v92 : Ref sig .tc := ⟨.hbm, 140, rfl⟩
abbrev main_call21_v0 : Ref sig .tc := ⟨.hbm, 141, rfl⟩
abbrev main_call21_v1 : Ref sig .tc := ⟨.hbm, 142, rfl⟩
abbrev main_v93 : Ref sig .tc := ⟨.hbm, 143, rfl⟩
abbrev main_call22_v0 : Ref sig .tc := ⟨.hbm, 144, rfl⟩
abbrev main_call22_v1 : Ref sig .tc := ⟨.hbm, 145, rfl⟩
abbrev main_v94 : Ref sig .tc := ⟨.hbm, 146, rfl⟩
abbrev main_c_16 : Ref sig .tc := ⟨.hbm, 147, rfl⟩
abbrev main_v95 : Ref sig .tc := ⟨.hbm, 148, rfl⟩
abbrev main_v96 : Ref sig .tc := ⟨.hbm, 149, rfl⟩
abbrev main_c_17 : Ref sig .tc := ⟨.hbm, 150, rfl⟩
abbrev main_v97 : Ref sig .tc := ⟨.hbm, 151, rfl⟩
abbrev main_v98 : Ref sig .tc := ⟨.hbm, 152, rfl⟩
abbrev main_c_18 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_c_19 : Ref sig .tc := ⟨.hbm, 160, rfl⟩
abbrev main_v105 : Ref sig .tc := ⟨.hbm, 161, rfl⟩
abbrev main_v106 : Ref sig .tc := ⟨.hbm, 162, rfl⟩
abbrev main_c_20 : Ref sig .tc := ⟨.hbm, 163, rfl⟩
abbrev main_v107 : Ref sig .tc := ⟨.hbm, 164, rfl⟩
abbrev main_v108 : Ref sig .tc := ⟨.hbm, 165, rfl⟩
abbrev main_c_21 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_c_22 : Ref sig .tc := ⟨.hbm, 171, rfl⟩
abbrev main_v113 : Ref sig .tc := ⟨.hbm, 172, rfl⟩
abbrev main_v114 : Ref sig .tc := ⟨.hbm, 173, rfl⟩
abbrev main_c_23 : Ref sig .tc := ⟨.hbm, 174, rfl⟩
abbrev main_v115 : Ref sig .tc := ⟨.hbm, 175, rfl⟩
abbrev main_v116 : Ref sig .tc := ⟨.hbm, 176, rfl⟩
abbrev main_c_24 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩

abbrev nD : Nat := 1
abbrev τ : Topo := Topo.v7x

variable {F : FTy → Type} [FloatOps F]
-- ==== Proof.Code.lean ====
/- The four-bit codes packed two to a byte, and the kernel's vectors of codes and of looked-up weights read at an index. -/
module

public import proofs.«01_k».proof.Proof.Gen.KernelIdeal.Skeleton
public import Idealize.ShloMosaic.Lib.Pointwise
public import Idealize.ShloMosaic.Lib.BitcastFour
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic

variable {F : FTy → Type} [FloatOps F]

/-- Nibble `p` of a byte: `p = 0` the low four bits, `p = 1` the high four. -/
def nib (b : BitVec 8) (p : ℕ) : Fin 16 := ⟨b.toNat / 16 ^ p % 16, Nat.mod_lt _ (by decide)⟩

/-- The source lane of each lane of a half: lane `l` reads lane `l / 2 + o`. -/
def lanes (o : BitVec 32) : IVec S64x128 32 :=
  shapeCast S64x128 (shapeCast S64x128x1
    (select
      (cmpi .slt (addi (shrsi (iota .tc S64x128 32 [1] iota_S64x128_d1_w32) (broadcast S64x128 1#32)) (broadcast S64x128 o)) (broadcast S64x128 0#32))
      (addi (addi (shrsi (iota .tc S64x128 32 [1] iota_S64x128_d1_w32) (broadcast S64x128 1#32)) (broadcast S64x128 o)) (broadcast S64x128 128#32))
      (addi (shrsi (iota .tc S64x128 32 [1] iota_S64x128_d1_w32) (broadcast S64x128 1#32)) (broadcast S64x128 o)))
    shapeCasts_S64x128_S64x128x1) shapeCasts_S64x128x1_S64x128

/-- The shift of each lane: 0 on even lanes, 4 on odd ones. -/
def shifts : IVec S64x128 32 :=
  muli (andi (iota .tc S64x128 32 [1] iota_S64x128_d1_w32) (broadcast S64x128 1#32)) (broadcast S64x128 4#32)

/-- The words of a half before they are taken apart into bytes: one code per byte. -/
def words (V : Vec F S256x128 .i8) (o : BitVec 32) : IVec S64x128 32 :=
  andi (shrui (dynamicGather 1 (bitcast S64x128 32 V bitcasts_S256x128_w8_S64x128_w32) (lanes o)) shifts)
    (broadcast S64x128 252645135#32)

/-- The codes of a half (offset `o`) of a chunk `V` of packed bytes. -/
def codes (V : Vec F S256x128 .i8) (o : BitVec 32) : IVec S256x128 16 :=
  extsi 16 (bitcast S256x128 8 (words V o) bitcasts_S64x128_w32_S256x128_w8) natLt_8_16

theorem lanes_0 (a : Fin 64) (l : Fin 128) : (lanes 0#32 (ix2 a l)).toNat = l.val / 2 := by
  unfold lanes
  pointwise
  revert l
  decide +kernel

theorem lanes_64 (a : Fin 64) (l : Fin 128) : (lanes 64#32 (ix2 a l)).toNat = l.val / 2 + 64 := by
  unfold lanes
  pointwise
  revert l
  decide +kernel

theorem shifts_at (a : Fin 64) (l : Fin 128) : shifts (ix2 a l) = BitVec.ofNat 32 (4 * (l.val % 2)) := by
  unfold shifts
  pointwise
  revert l
  decide +kernel

/-- A bit of a word: bit `8 t + q` (`q < 8`) of word row `a` is, for `q < 4`, bit `q` of the nibble of byte row
    `4 a + t` at the source lane, and zero for `q ≥ 4`. -/
theorem words_bit (V : Vec F S256x128 .i8) (o : BitVec 32) (a : Fin 64) (l s : Fin 128)
    (hs : (lanes o (ix2 a l)).toNat = s.val) (t q : ℕ) (ht : t < 4) (hq : q < 8) (r : Fin 256) (hr : r.val = 4 * a.val + t) :
    (words V o (ix2 a l)).getLsbD (8 * t + q)
      = (decide (q < 4) && (V (ix2 r s) : BitVec 8).getLsbD (4 * (l.val % 2) + q)) := by
  have hm : (252645135#32).getLsbD (8 * t + q) = decide (q < 4) := by
    have := (by decide : ∀ t : Fin 4, ∀ q : Fin 8, (252645135#32).getLsbD (8 * t.val + q.val) = decide (q.val < 4))
    exact this ⟨t, ht⟩ ⟨q, hq⟩
  have hg : dynamicGather 1 (bitcast S64x128 32 V bitcasts_S256x128_w8_S64x128_w32) (lanes o) (ix2 a l)
      = bitcast S64x128 32 V bitcasts_S256x128_w8_S64x128_w32 (ix2 a s) := by
    unfold dynamicGather
    congr 1
    funext b
    match b with
    | ⟨0, _⟩ => rfl
    | ⟨1, _⟩ =>
      apply Fin.ext
      show (lanes o (ix2 a l)).toNat % 128 = s.val
      rw [hs]; exact Nat.mod_eq_of_lt s.isLt
  show (IntOp.andi (IntOp.shrui .vector (dynamicGather 1 _ (lanes o) (ix2 a l)) (shifts (ix2 a l))) 252645135#32).getLsbD _ = _
  rw [hg, shifts_at]
  have hl : l.val % 2 < 2 := Nat.mod_lt _ (by decide)
  have hn : (BitVec.ofNat 32 (4 * (l.val % 2))).toNat = 4 * (l.val % 2) := by
    rw [BitVec.toNat_ofNat]; omega
  unfold IntOp.andi IntOp.shrui
  rw [if_pos (by rw [hn]; omega), BitVec.getLsbD_and, hm, Bool.and_comm, BitVec.ushiftRight_eq', hn, BitVec.getLsbD_ushiftRight]
  by_cases h4 : q < 4
  · congr 1
    have := bitcast_8_32_getLsbD_ix2 V bitcasts_S256x128_w8_S64x128_w32 a s (4 * (l.val % 2) + (8 * t + q)) (by omega) r (by omega)
    refine Eq.trans ?_ (this.trans ?_)
    · congr 2
    · congr 2
      omega
  · simp [h4]

/-- One byte of the words: the nibble of the source byte, as a byte. -/
theorem byte_at (V : Vec F S256x128 .i8) (o : BitVec 32) (r : Fin 256) (l s : Fin 128)
    (hs : ∀ a, (lanes o (ix2 a l)).toNat = s.val) :
    bitcast S256x128 8 (words V o) bitcasts_S64x128_w32_S256x128_w8 (ix2 r l)
      = ((V (ix2 r s) : BitVec 8) >>> (4 * (l.val % 2))) &&& 15#8 := by
  apply BitVec.eq_of_getLsbD_eq
  intro q hq
  rw [bitcast_getLsbD (words V o) _ (ix2 r l) q hq (by decide)]
  have hrow : S256x128.row (ix2 r l) = r.val := rfl
  have e2 : (S256x128.row (ix2 r l) * 8 + q) % 32 = 8 * (r.val % 4) + q := by rw [hrow]; omega
  have hw := words_bit V o ⟨r.val / 4, by omega⟩ l s (hs _) (r.val % 4) q (by omega) hq r (by show r.val = 4 * (r.val / 4) + r.val % 4; omega)
  rw [e2]
  refine Eq.trans ?_ (hw.trans ?_)
  · congr 2
    funext c
    match c with
    | ⟨0, _⟩ =>
      refine Fin.ext ((Shape.Bitcasts.srcIdx_row _ _ _ _ ⟨0, Nat.zero_lt_two⟩ rfl).trans ?_)
      show (r.val * 8 + q) / 32 = r.val / 4
      omega
    | ⟨1, _⟩ => exact Fin.ext (Shape.Bitcasts.srcIdx_other _ _ _ _ ⟨1, Nat.one_lt_two⟩ (by show ¬ 1 + 2 = 2; omega))
  · rw [BitVec.getLsbD_and, BitVec.getLsbD_ushiftRight, Bool.and_comm]
    have h15 : (15#8).getLsbD q = decide (q < 4) := (by decide : ∀ q : Fin 8, (15#8).getLsbD q.val = decide (q.val < 4)) ⟨q, hq⟩
    rw [h15]

theorem nib_word (b : BitVec 8) (p : ℕ) (hp : p < 2) :
    ((b >>> (4 * p)) &&& 15#8).signExtend 16 = BitVec.ofNat 16 (nib b p).val := by
  have := (by decide +kernel : ∀ n : Fin 256, ∀ p : Fin 2,
    ((BitVec.ofFin (w := 8) n >>> (4 * p.val)) &&& 15#8).signExtend 16 = BitVec.ofNat 16 (nib (BitVec.ofFin (w := 8) n) p.val).val)
  exact this b.toFin ⟨p, hp⟩

/-- The codes of a half, read at row `r` and lane `l`: nibble `l % 2` of the source byte. -/
theorem codes_at (V : Vec F S256x128 .i8) (o : BitVec 32) (r : Fin 256) (l s : Fin 128)
    (hs : ∀ a, (lanes o (ix2 a l)).toNat = s.val) :
    codes V o (ix2 r l) = BitVec.ofNat 16 (nib (V (ix2 r s)) (l.val % 2)).val := by
  show (bitcast S256x128 8 (words V o) bitcasts_S64x128_w32_S256x128_w8 (ix2 r l)).signExtend 16 = _
  rw [byte_at V o r l s hs]
  exact nib_word _ _ (Nat.mod_lt _ (by decide))

/-- One lookup: a tree of four levels of two-way choices over sixteen values, the level's bit of the code choosing. -/
def tree {α : Type} (c : BitVec 16) (t : Fin 16 → α) : α :=
  let s (b : BitVec 16) (x y : α) := Scalar.select (IntOp.cmpi .ne (IntOp.andi c b) 0#16) x y
  s 8#16
    (s 4#16
      (s 2#16 (s 1#16 (t 15) (t 14)) (s 1#16 (t 13) (t 12)))
      (s 2#16 (s 1#16 (t 11) (t 10)) (s 1#16 (t 9) (t 8))))
    (s 4#16
      (s 2#16 (s 1#16 (t 7) (t 6)) (s 1#16 (t 5) (t 4)))
      (s 2#16 (s 1#16 (t 3) (t 2)) (s 1#16 (t 1) (t 0))))

/-- The tree picks the value its code numbers. -/
theorem tree_at {α : Type} (n : Fin 16) (t : Fin 16 → α) : tree (BitVec.ofNat 16 n.val) t = t n := by
  fin_cases n <;> rfl

/-- One row of the table spread over the rows of a slab. -/
def spread (t : Vec F S1x128 .bf16) : FVec F S256x128 .bf16 :=
  broadcastTo S256x128 (shapeCast S1x128 (shapeCast S1x128 t shapeCasts_S1x128_S1x128) shapeCasts_S1x128_S1x128) broadcasts_S1x128_S256x128

theorem spread_at (t : Vec F S1x128 .bf16) (r : Fin 256) (l : Fin 128) : spread t (ix2 r l) = t (ix2 0 l) := by
  unfold spread
  pointwise

/-- The choice by one bit of the codes. -/
def pick (C : IVec S256x128 16) (b : BitVec 16) (x y : FVec F S256x128 .bf16) : FVec F S256x128 .bf16 :=
  select (cmpi .ne (andi C (broadcast S256x128 b)) (broadcast S256x128 0#16)) x y

/-- A slab of 256 × 128 looked-up weights, as the kernel stores it. -/
def slab (V : Vec F S256x128 .i8) (o : BitVec 32) (t0 t1 t2 t3 t4 t5 t6 t7 t8 t9 t10 t11 t12 t13 t14 t15 : Vec F S1x128 .bf16) :
    FVec F S256x128 .bf16 :=
  shapeCast S256x128
    (pick (codes V o) 8#16
      (pick (codes V o) 4#16
        (pick (codes V o) 2#16 (pick (codes V o) 1#16 (spread t15) (spread t14)) (pick (codes V o) 1#16 (spread t13) (spread t12)))
        (pick (codes V o) 2#16 (pick (codes V o) 1#16 (spread t11) (spread t10)) (pick (codes V o) 1#16 (spread t9) (spread t8))))
      (pick (codes V o) 4#16
        (pick (codes V o) 2#16 (pick (codes V o) 1#16 (spread t7) (spread t6)) (pick (codes V o) 1#16 (spread t5) (spread t4)))
        (pick (codes V o) 2#16 (pick (codes V o) 1#16 (spread t3) (spread t2)) (pick (codes V o) 1#16 (spread t1) (spread t0)))))
    shapeCasts_S256x128_S256x128

/-- A slab read at row `r` and lane `l`: the table row numbered by nibble `l % 2` of the source byte, at lane `l`. -/
theorem slab_at (V : Vec F S256x128 .i8) (o : BitVec 32) (t0 t1 t2 t3 t4 t5 t6 t7 t8 t9 t10 t11 t12 t13 t14 t15 : Vec F S1x128 .bf16)
    (r : Fin 256) (l s : Fin 128) (hs : ∀ a, (lanes o (ix2 a l)).toNat = s.val) :
    slab V o t0 t1 t2 t3 t4 t5 t6 t7 t8 t9 t10 t11 t12 t13 t14 t15 (ix2 r l)
      = (![t0, t1, t2, t3, t4, t5, t6, t7, t8, t9, t10, t11, t12, t13, t14, t15] (nib (V (ix2 r s)) (l.val % 2))) (ix2 0 l) := by
  have h : slab V o t0 t1 t2 t3 t4 t5 t6 t7 t8 t9 t10 t11 t12 t13 t14 t15 (ix2 r l)
      = tree (codes V o (ix2 r l)) (fun n => spread (![t0, t1, t2, t3, t4, t5, t6, t7, t8, t9, t10, t11, t12, t13, t14, t15] n) (ix2 r l)) := by
    unfold slab
    rw [shapeCast_self]
    rfl
  rw [h, codes_at V o r l s hs, tree_at, spread_at]

end Cert.KernelIdeal.Gen
-- ==== Proof.Weights.lean ====
/- The weights a grid step decodes, and the stores of the first loop read against them. -/
module

public import proofs.«01_k».proof.Proof.Gen.KernelIdeal.Frame.Runs
public import proofs.«01_k».proof.Proof.Code

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The weights a grid step decodes from its packed bytes and its table: column `n` is nibble `n % 2` of packed
    column `n / 2`, looked up in column `n` of the table. -/
def wts (x1 : Vec F S4096x256 .i8) (x2 : Vec F S16x512 .bf16) : Vec F S4096x512 .bf16 := fun i =>
  x2 (ix2 (nib (x1 (ix2 (⟨(i 0).val, (i 0).isLt⟩ : Fin 4096) (⟨(i 1).val / 2, by have : (i 1).val < 512 := (i 1).isLt; omega⟩ : Fin 256)))
    ((i 1).val % 2)) (⟨(i 1).val, (i 1).isLt⟩ : Fin 512))

/-- A slab stored at row offset `R` and column offset `C` is those weights, where its bytes were read at row `R` and
    column `C1` and its sixteen table rows at column `C`, and half `o` is the one that starts at `C`. -/
theorem slab_eq (x1 : Vec F S4096x256 .i8) (x2 : Vec F S16x512 .bf16) (offW offV : Fin 2 → ℕ) (o : BitVec 32) (oN R C C1 : ℕ)
    (hW : offW = ![R, C]) (hV : offV = ![R, C1]) (hC : C = 2 * (C1 + oN)) (ho : oN ≤ 64)
    (hl : ∀ a l, (lanes o (ix2 a l)).toNat = l.val / 2 + oN)
    (iW : ∀ a, offW a + (![256, 128] : Fin 2 → ℕ) a ≤ S4096x512.size a)
    (iV : ∀ a, offV a + (![256, 128] : Fin 2 → ℕ) a ≤ S4096x256.size a)
    (iT : ∀ n : Fin 16, ∀ a, (![n.val, C] : Fin 2 → ℕ) a + (![1, 128] : Fin 2 → ℕ) a ≤ S16x512.size a)
    (x : S256x128.Idx) :
    slab (View.ld x1 (Rect.unit (s := S4096x256) offV ![256, 128] iV)) o
      (View.ld x2 (Rect.unit (s := S16x512) ![0, C] ![1, 128] (iT 0))) (View.ld x2 (Rect.unit (s := S16x512) ![1, C] ![1, 128] (iT 1)))
      (View.ld x2 (Rect.unit (s := S16x512) ![2, C] ![1, 128] (iT 2))) (View.ld x2 (Rect.unit (s := S16x512) ![3, C] ![1, 128] (iT 3)))
      (View.ld x2 (Rect.unit (s := S16x512) ![4, C] ![1, 128] (iT 4))) (View.ld x2 (Rect.unit (s := S16x512) ![5, C] ![1, 128] (iT 5)))
      (View.ld x2 (Rect.unit (s := S16x512) ![6, C] ![1, 128] (iT 6))) (View.ld x2 (Rect.unit (s := S16x512) ![7, C] ![1, 128] (iT 7)))
      (View.ld x2 (Rect.unit (s := S16x512) ![8, C] ![1, 128] (iT 8))) (View.ld x2 (Rect.unit (s := S16x512) ![9, C] ![1, 128] (iT 9)))
      (View.ld x2 (Rect.unit (s := S16x512) ![10, C] ![1, 128] (iT 10))) (View.ld x2 (Rect.unit (s := S16x512) ![11, C] ![1, 128] (iT 11)))
      (View.ld x2 (Rect.unit (s := S16x512) ![12, C] ![1, 128] (iT 12))) (View.ld x2 (Rect.unit (s := S16x512) ![13, C] ![1, 128] (iT 13)))
      (View.ld x2 (Rect.unit (s := S16x512) ![14, C] ![1, 128] (iT 14))) (View.ld x2 (Rect.unit (s := S16x512) ![15, C] ![1, 128] (iT 15))) x
      = wts x1 x2 ((Rect.unit (s := S4096x512) offW ![256, 128] iW).emb x) := by
  subst hW hV
  obtain ⟨r, l, rfl⟩ : ∃ (r : Fin 256) (l : Fin 128), x = ix2 r l := ⟨x 0, x 1, eq_ix2 x⟩
  have hCb : C + 128 ≤ 512 := iW 1
  have hV1 : C1 + 128 ≤ 256 := iV 1
  refine (slab_at _ o _ _ _ _ _ _ _ _ _ _ _ _ _ _ _ _ r l ⟨l.val / 2 + oN, by omega⟩ (fun a => hl a l)).trans ?_
  unfold wts
  have hb : x1 ((Rect.unit (s := S4096x256) ![R, C1] ![256, 128] iV).idx (ix2 r (⟨l.val / 2 + oN, by omega⟩ : Fin 128)))
      = x1 (ix2 (⟨R + r.val, by have := iW 0; change R + 256 ≤ 4096 at this; omega⟩ : Fin 4096) (⟨(C + l.val) / 2, by omega⟩ : Fin 256)) := by
    congr 1
    funext a
    apply Fin.ext
    match a with
    | ⟨0, _⟩ => show R + 1 * r.val = R + r.val; omega
    | ⟨1, _⟩ => show C1 + 1 * (l.val / 2 + oN) = (C + l.val) / 2; omega
  have ht : ∀ (n : Fin 16) (h : ∀ a, (![n.val, C] : Fin 2 → ℕ) a + (![1, 128] : Fin 2 → ℕ) a ≤ S16x512.size a),
      View.ld x2 (Rect.unit (s := S16x512) ![n.val, C] ![1, 128] h) (ix2 0 l) = x2 (ix2 n (⟨C + l.val, by omega⟩ : Fin 512)) := by
    intro n h
    show x2 _ = x2 _
    congr 1
    funext a
    apply Fin.ext
    match a with
    | ⟨0, _⟩ => show n.val + 1 * 0 = n.val; omega
    | ⟨1, _⟩ => show C + 1 * l.val = C + l.val; omega
  have e0 : (Rect.unit (s := S4096x512) ![R, C] ![256, 128] iW).emb (ix2 r l)
      = ix2 (⟨R + r.val, by have := iW 0; change R + 256 ≤ 4096 at this; omega⟩ : Fin 4096) (⟨C + l.val, by omega⟩ : Fin 512) := by
    funext a
    apply Fin.ext
    match a with
    | ⟨0, _⟩ => show R + 1 * r.val = R + r.val; omega
    | ⟨1, _⟩ => show C + 1 * l.val = C + l.val; omega
  rw [e0]
  have e1 : l.val % 2 = (C + l.val) % 2 := by omega
  show _ = x2 (ix2 (nib (x1 (ix2 (⟨R + r.val, _⟩ : Fin 4096) (⟨(C + l.val) / 2, _⟩ : Fin 256))) ((C + l.val) % 2)) (⟨C + l.val, _⟩ : Fin 512))
  rw [← hb, e1]
  dsimp only [View.ld]
  generalize nib _ _ = n
  rw [← ht n (iT n)]
  fin_cases n <;> rfl

/-- Every row of the table has the 128 columns a slab at column offset `C` reads. -/
theorem table_rows (C : ℕ) (hC : C + 128 ≤ 512) (n : Fin 16) :
    ∀ a, (![n.val, C] : Fin 2 → ℕ) a + (![1, 128] : Fin 2 → ℕ) a ≤ S16x512.size a := fun a =>
  match a with
  | ⟨0, _⟩ => by show n.val + 1 ≤ 16; omega
  | ⟨1, _⟩ => hC

set_option maxHeartbeats 1000000 in
/-- Each of a trip's four stores into the weights' buffer stores those weights. -/
theorem trip1_pieces (c : Dev nD) (i : grid0.Coords) (arg1 : Memref sig .tc .vmem S3072x4096 .bf16) (harg1 : arg1.IsWhole) (arg2 : Memref sig .tc .vmem S4096x256 .i8) (harg2 : arg2.IsWhole) (arg3 : Memref sig .tc .vmem S16x512 .bf16) (harg3 : arg3.IsWhole) (arg4 : Memref sig .tc .vmem S3072x512 .bf16) (harg4 : arg4.IsWhole) (arg5 : Memref sig .tc .vmem S4096x512 .bf16) (harg5 : arg5.IsWhole) (x1 : Vec F S4096x256 .i8) (x2 : Vec F S16x512 .bf16) (k : Fin k0_t1_loop.trips) : ∀ p ∈ tripL_k0_t1 (F := F) Variants.none c none i arg1 harg1 arg2 harg2 arg3 harg3 arg4 harg4 arg5 harg5 (harg2.unread x1) (harg3.unread x2) k, ∀ x, p.2 x = wts x1 x2 (p.1.emb x) := by
  unfold tripL_k0_t1 trip_k0_t1
  dsimp only
  frame_out
  simp only [List.forall_mem_cons, List.not_mem_nil, false_imp_iff, implies_true, and_true]
  refine ⟨fun x => ?_, fun x => ?_, fun x => ?_, fun x => ?_⟩
  · exact slab_eq x1 x2 _ _ 64#32 64 _ 384 128 (k0_off6_eq k) (k0_off4_eq k) rfl (by decide) lanes_64 _ _ (table_rows 384 (by decide)) x
  · exact slab_eq x1 x2 _ _ 0#32 0 _ 256 128 (k0_off5_eq k) (k0_off4_eq k) rfl (by decide) lanes_0 _ _ (table_rows 256 (by decide)) x
  · exact slab_eq x1 x2 _ _ 64#32 64 _ 128 0 (k0_off3_eq k) (k0_off1_eq k) rfl (by decide) lanes_64 _ _ (table_rows 128 (by decide)) x
  · exact slab_eq x1 x2 _ _ 0#32 0 _ 0 0 (k0_off2_eq k) (k0_off1_eq k) rfl (by decide) lanes_0 _ _ (table_rows 0 (by decide)) x

end Cert.KernelIdeal.Gen
-- ==== Proof.Trips.lean ====
/- What the two loops of a grid step leave: the weights' buffer after the first, the output block after the second. -/
module

public import proofs.«01_k».proof.Proof.Weights

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Trips

variable (c : Dev nD) (i : grid0.Coords)
  (arg1 : Memref sig .tc .vmem S3072x4096 .bf16) (harg1 : arg1.IsWhole) (arg2 : Memref sig .tc .vmem S4096x256 .i8) (harg2 : arg2.IsWhole)
  (arg3 : Memref sig .tc .vmem S16x512 .bf16) (harg3 : arg3.IsWhole) (arg4 : Memref sig .tc .vmem S3072x512 .bf16) (harg4 : arg4.IsWhole)
  (arg5 : Memref sig .tc .vmem S4096x512 .bf16) (harg5 : arg5.IsWhole)
  (x0 : Vec F S3072x4096 .bf16) (x1 : Vec F S4096x256 .i8) (x2 : Vec F S16x512 .bf16) (W : Vec F S4096x512 .bf16)

/-- The stores of the trips before `n` into the weights' buffer. -/
abbrev stores1 (n : ℕ) : List (View.Piece (Elt F) S4096x512 .bf16) :=
  pb_k0_t1 (F := F) Variants.none c none i arg1 harg1 arg2 harg2 arg3 harg3 arg4 harg4 arg5 harg5 (harg2.unread x1) (harg3.unread x2) n

/-- The stores of the trips before `n` into the output block, over the weights `W`. -/
abbrev stores2 (n : ℕ) : List (View.Piece (Elt F) S3072x512 .bf16) :=
  pb_k0_t2 (F := F) Variants.none c none i arg1 harg1 arg2 harg2 arg3 harg3 arg4 harg4 arg5 harg5 (harg1.unread x0) (harg5.unread W) n

theorem stores1_agree (n : ℕ) (hn : n ≤ k0_t1_loop.trips) :
    ∀ p ∈ stores1 c i arg1 harg1 arg2 harg2 arg3 harg3 arg4 harg4 arg5 harg5 x1 x2 n, ∀ x, p.2 x = wts x1 x2 (p.1.emb x) := by
  induction n with
  | zero => intro p hp; exact absurd hp (List.not_mem_nil)
  | succ n ih =>
    intro p hp
    rw [stores1, pb_k0_t1_succ _ _ _ _ _ _ _ _ _ _ _ _ _ _ _ _ (⟨n, hn⟩ : Fin k0_t1_loop.trips)] at hp
    rcases List.mem_append.1 hp with h | h
    · exact trip1_pieces c i arg1 harg1 arg2 harg2 arg3 harg3 arg4 harg4 arg5 harg5 x1 x2 ⟨n, hn⟩ p h
    · exact ih (by omega) p h

theorem stores1_mem (n : ℕ) (hn : n ≤ k0_t1_loop.trips) (k : Fin k0_t1_loop.trips) (hk : k.val < n)
    (p : View.Piece (Elt F) S4096x512 .bf16)
    (hp : p ∈ tripL_k0_t1 (F := F) Variants.none c none i arg1 harg1 arg2 harg2 arg3 harg3 arg4 harg4 arg5 harg5 (harg2.unread x1) (harg3.unread x2) k) :
    p ∈ stores1 c i arg1 harg1 arg2 harg2 arg3 harg3 arg4 harg4 arg5 harg5 x1 x2 n := by
  induction n with
  | zero => omega
  | succ n ih =>
    rw [stores1, pb_k0_t1_succ _ _ _ _ _ _ _ _ _ _ _ _ _ _ _ _ (⟨n, hn⟩ : Fin k0_t1_loop.trips)]
    by_cases h : k.val = n
    · obtain rfl : k = ⟨n, hn⟩ := Fin.ext h
      exact List.mem_append.2 (.inl hp)
    · exact List.mem_append.2 (.inr (ih (by omega) (by omega)))

/-- A trip's four stores cover its 256 rows. -/
theorem trip1_cover (k : Fin k0_t1_loop.trips) (y : S4096x512.Idx) (hy : (y 0).val / 256 = k.val) :
    ∃ p ∈ tripL_k0_t1 (F := F) Variants.none c none i arg1 harg1 arg2 harg2 arg3 harg3 arg4 harg4 arg5 harg5 (harg2.unread x1) (harg3.unread x2) k,
      y ∈ p.1.set := by
  have h0 : (y 0).val < 4096 := (y 0).isLt
  have h1 : (y 1).val < 512 := (y 1).isLt
  unfold tripL_k0_t1 trip_k0_t1
  dsimp only
  have hc : (y 1).val / 128 = 3 ∨ (y 1).val / 128 = 2 ∨ (y 1).val / 128 = 1 ∨ (y 1).val / 128 = 0 := by omega
  have mem (off : Fin 2 → ℕ) (C : ℕ) (ho : off = ![256 * k.val, C]) (inb) (hC : C ≤ (y 1).val ∧ (y 1).val < C + 128) :
      y ∈ (Rect.unit (s := S4096x512) off S256x128.size inb).set := by
    subst ho
    rw [Rect.mem_set_unit]
    intro a
    match a with
    | ⟨0, _⟩ => show 256 * k.val ≤ (y 0).val ∧ (y 0).val < 256 * k.val + 256; omega
    | ⟨1, _⟩ => exact hC
  rcases hc with h | h | h | h
  · exact ⟨_, List.mem_cons_self, mem _ 384 (k0_off6_eq k) (k0_off6_inb k) (by omega)⟩
  · exact ⟨_, List.mem_cons_of_mem _ List.mem_cons_self, mem _ 256 (k0_off5_eq k) (k0_off5_inb k) (by omega)⟩
  · exact ⟨_, List.mem_cons_of_mem _ (List.mem_cons_of_mem _ List.mem_cons_self), mem _ 128 (k0_off3_eq k) (k0_off3_inb k) (by omega)⟩
  · exact ⟨_, List.mem_cons_of_mem _ (List.mem_cons_of_mem _ (List.mem_cons_of_mem _ List.mem_cons_self)), mem _ 0 (k0_off2_eq k) (k0_off2_inb k) (by omega)⟩

theorem trips1 : k0_t1_loop.trips = 16 := by decide +kernel
theorem trips2 : k0_t2_loop.trips = 6 := by decide +kernel

/-- After the first loop the buffer holds the weights, whatever it held before. -/
theorem after1 (f : arg5.view.ty.Contents (Elt F)) :
    arg5.view.writes (Elt F) f (stores1 c i arg1 harg1 arg2 harg2 arg3 harg3 arg4 harg4 arg5 harg5 x1 x2 k0_t1_loop.trips)
      = harg5.unread (wts x1 x2) := by
  refine harg5.eq_unread (funext fun y => ?_)
  refine View.read_writes_apply_of_pieces _ _ _ _ (stores1_agree c i arg1 harg1 arg2 harg2 arg3 harg3 arg4 harg4 arg5 harg5 x1 x2 _ le_rfl) y ?_
  have h0 : (y 0).val < 4096 := (y 0).isLt
  have hk : (y 0).val / 256 < k0_t1_loop.trips := by rw [trips1]; omega
  obtain ⟨p, hp, hm⟩ := trip1_cover c i arg1 harg1 arg2 harg2 arg3 harg3 arg4 harg4 arg5 harg5 x1 x2 ⟨_, hk⟩ y rfl
  exact ⟨p, stores1_mem c i arg1 harg1 arg2 harg2 arg3 harg3 arg4 harg4 arg5 harg5 x1 x2 _ le_rfl ⟨_, hk⟩ hk p hp, hm⟩

/-- The output block from the activations and the weights: row tile `i / 512` of the activations times the weights. -/
def outp (x0 : Vec F S3072x4096 .bf16) (W : Vec F S4096x512 .bf16) : Vec F S3072x512 .bf16 := fun y =>
  k0_pay2 (fun j : S512x4096.Idx => x0 (ix2 (⟨512 * ((y 0).val / 512) + (j 0).val, by
      have h0 : (y 0).val < 3072 := (y 0).isLt
      have h1 : (j 0).val < 512 := (j 0).isLt
      omega⟩ : Fin 3072) (⟨(j 1).val, (j 1).isLt⟩ : Fin 4096))) W
    (ix2 (⟨(y 0).val % 512, Nat.mod_lt _ (by decide)⟩ : Fin 512) (⟨(y 1).val, (y 1).isLt⟩ : Fin 512))

/-- The one store of a trip of the second loop stores its rows of that block. -/
theorem trip2_pieces (k : Fin k0_t2_loop.trips) :
    ∀ p ∈ tripL_k0_t2 (F := F) Variants.none c none i arg1 harg1 arg2 harg2 arg3 harg3 arg4 harg4 arg5 harg5 (harg1.unread x0) (harg5.unread W) k,
      ∀ x, p.2 x = outp x0 W (p.1.emb x) := by
  unfold tripL_k0_t2 trip_k0_t2
  dsimp only
  simp only [List.forall_mem_cons, List.not_mem_nil, false_imp_iff, implies_true, and_true]
  simp only [View.readAt_eq_ld, harg1.read_unread, harg5.read_unread]
  intro x
  have hW : View.ld W (Rect.unit (s := S4096x512) ![0, 0] ![4096, 512] inb_S4096x512_S4096x512_0_0) = W :=
    funext fun j => congrArg W (funext fun a => Fin.ext (by
      match a with
      | ⟨0, _⟩ => show 0 + 1 * (j 0).val = (j 0).val; omega
      | ⟨1, _⟩ => show 0 + 1 * (j 1).val = (j 1).val; omega))
  have hk : k.val < 6 := lt_of_lt_of_eq k.isLt trips2
  have h0 : (x 0).val < 512 := (x 0).isLt
  have h1 : (x 1).val < 512 := (x 1).isLt
  have q0 : k0_off8 k 0 = 512 * k.val := congrFun (k0_off8_eq k) 0
  have q1 : k0_off8 k 1 = 0 := congrFun (k0_off8_eq k) 1
  have s0 : k0_off7 k 0 = 512 * k.val := congrFun (k0_off7_eq k) 0
  have s1 : k0_off7 k 1 = 0 := congrFun (k0_off7_eq k) 1
  have e0 : ((Rect.unit (s := S3072x512) (k0_off8 k) ![512, 512] (k0_off8_inb k)).emb x 0).val = 512 * k.val + (x 0).val := by
    show k0_off8 k 0 + 1 * (x 0).val = _
    omega
  have e1 : ((Rect.unit (s := S3072x512) (k0_off8 k) ![512, 512] (k0_off8_inb k)).emb x 1).val = (x 1).val := by
    show k0_off8 k 1 + 1 * (x 1).val = _
    omega
  rw [hW]
  unfold outp
  refine congr (congrArg (fun X => k0_pay2 X W) (funext fun j => congrArg x0 (funext fun a => Fin.ext ?_))) (funext fun a => Fin.ext ?_)
  · match a with
    | ⟨0, _⟩ =>
      show k0_off7 k 0 + 1 * (j 0).val = 512 * (((Rect.unit (s := S3072x512) (k0_off8 k) ![512, 512] (k0_off8_inb k)).emb x 0).val / 512) + (j 0).val
      rw [e0]
      omega
    | ⟨1, _⟩ =>
      show k0_off7 k 1 + 1 * (j 1).val = (j 1).val
      omega
  · match a with
    | ⟨0, _⟩ =>
      show (x 0).val = ((Rect.unit (s := S3072x512) (k0_off8 k) ![512, 512] (k0_off8_inb k)).emb x 0).val % 512
      rw [e0]; omega
    | ⟨1, _⟩ => exact e1.symm

theorem stores2_agree (n : ℕ) (hn : n ≤ k0_t2_loop.trips) :
    ∀ p ∈ stores2 c i arg1 harg1 arg2 harg2 arg3 harg3 arg4 harg4 arg5 harg5 x0 W n, ∀ x, p.2 x = outp x0 W (p.1.emb x) := by
  induction n with
  | zero => intro p hp; exact absurd hp (List.not_mem_nil)
  | succ n ih =>
    intro p hp
    rw [stores2, pb_k0_t2_succ _ _ _ _ _ _ _ _ _ _ _ _ _ _ _ _ (⟨n, hn⟩ : Fin k0_t2_loop.trips)] at hp
    rcases List.mem_append.1 hp with h | h
    · exact trip2_pieces c i arg1 harg1 arg2 harg2 arg3 harg3 arg4 harg4 arg5 harg5 x0 W ⟨n, hn⟩ p h
    · exact ih (by omega) p h

theorem stores2_mem (n : ℕ) (hn : n ≤ k0_t2_loop.trips) (k : Fin k0_t2_loop.trips) (hk : k.val < n)
    (p : View.Piece (Elt F) S3072x512 .bf16)
    (hp : p ∈ tripL_k0_t2 (F := F) Variants.none c none i arg1 harg1 arg2 harg2 arg3 harg3 arg4 harg4 arg5 harg5 (harg1.unread x0) (harg5.unread W) k) :
    p ∈ stores2 c i arg1 harg1 arg2 harg2 arg3 harg3 arg4 harg4 arg5 harg5 x0 W n := by
  induction n with
  | zero => omega
  | succ n ih =>
    rw [stores2, pb_k0_t2_succ _ _ _ _ _ _ _ _ _ _ _ _ _ _ _ _ (⟨n, hn⟩ : Fin k0_t2_loop.trips)]
    by_cases h : k.val = n
    · obtain rfl : k = ⟨n, hn⟩ := Fin.ext h
      exact List.mem_append.2 (.inl hp)
    · exact List.mem_append.2 (.inr (ih (by omega) (by omega)))

/-- A trip's store covers its 512 rows. -/
theorem trip2_cover (k : Fin k0_t2_loop.trips) (y : S3072x512.Idx) (hy : (y 0).val / 512 = k.val) :
    ∃ p ∈ tripL_k0_t2 (F := F) Variants.none c none i arg1 harg1 arg2 harg2 arg3 harg3 arg4 harg4 arg5 harg5 (harg1.unread x0) (harg5.unread W) k,
      y ∈ p.1.set := by
  have h0 : (y 0).val < 3072 := (y 0).isLt
  have h1 : (y 1).val < 512 := (y 1).isLt
  unfold tripL_k0_t2 trip_k0_t2
  dsimp only
  refine ⟨_, List.mem_cons_self, ?_⟩
  have mem (off : Fin 2 → ℕ) (ho : off = ![512 * k.val, 0]) (inb) :
      y ∈ (Rect.unit (s := S3072x512) off S512x512.size inb).set := by
    subst ho
    rw [Rect.mem_set_unit]
    intro a
    match a with
    | ⟨0, _⟩ => show 512 * k.val ≤ (y 0).val ∧ (y 0).val < 512 * k.val + 512; omega
    | ⟨1, _⟩ => show 0 ≤ (y 1).val ∧ (y 1).val < 0 + 512; omega
  exact mem _ (k0_off8_eq k) (k0_off8_inb k)

/-- After the second loop the output's buffer holds the output block, whatever it held before. -/
theorem after2 (f : arg4.view.ty.Contents (Elt F)) :
    arg4.view.writes (Elt F) f (stores2 c i arg1 harg1 arg2 harg2 arg3 harg3 arg4 harg4 arg5 harg5 x0 W k0_t2_loop.trips)
      = harg4.unread (outp x0 W) := by
  refine harg4.eq_unread (funext fun y => ?_)
  refine View.read_writes_apply_of_pieces _ _ _ _ (stores2_agree c i arg1 harg1 arg2 harg2 arg3 harg3 arg4 harg4 arg5 harg5 x0 W _ le_rfl) y ?_
  have h0 : (y 0).val < 3072 := (y 0).isLt
  have hk : (y 0).val / 512 < k0_t2_loop.trips := by rw [trips2]; omega
  obtain ⟨p, hp, hm⟩ := trip2_cover c i arg1 harg1 arg2 harg2 arg3 harg3 arg4 harg4 arg5 harg5 x0 W ⟨_, hk⟩ y rfl
  exact ⟨p, stores2_mem c i arg1 harg1 arg2 harg2 arg3 harg3 arg4 harg4 arg5 harg5 x0 W _ le_rfl ⟨_, hk⟩ hk p hp, hm⟩

end Trips

end Cert.KernelIdeal.Gen
-- ==== Proof.Step.lean ====
/- One grid step run: its two loops, and what it leaves in the output's staging buffer. -/
module

public import proofs.«01_k».proof.Proof.Trips

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Step

variable (c : Dev nD) (i : grid0.Coords)
  (arg1 : Memref sig .tc .vmem S3072x4096 .bf16) (harg1 : arg1.IsWhole) (arg2 : Memref sig .tc .vmem S4096x256 .i8) (harg2 : arg2.IsWhole)
  (arg3 : Memref sig .tc .vmem S16x512 .bf16) (harg3 : arg3.IsWhole) (arg4 : Memref sig .tc .vmem S3072x512 .bf16) (harg4 : arg4.IsWhole)
  (arg5 : Memref sig .tc .vmem S4096x512 .bf16) (harg5 : arg5.IsWhole)
  (x0 : Vec F S3072x4096 .bf16) (x1 : Vec F S4096x256 .i8) (x2 : Vec F S16x512 .bf16) (W : Vec F S4096x512 .bf16)

/-- The first loop by its invariant. -/
theorem loop1 (G : arg5.view.ty.Contents (Elt F)) (E : Set ℕ) {β : Type} {kk : PUnit → Prog _ β} {Q : β → sProp 𝕄} :
    inv_k0_t1 (F := F) Variants.none c none i arg1 harg1 arg2 harg2 arg3 harg3 arg4 harg4 arg5 harg5 (harg2.unread x1) (harg3.unread x2) G 0 PUnit.unit.{1}
      ⊢ iprop((∀ acc : PUnit.{1}, inv_k0_t1 (F := F) Variants.none c none i arg1 harg1 arg2 harg2 arg3 harg3 arg4 harg4 arg5 harg5 (harg2.unread x1) (harg3.unread x2) G k0_t1_loop.trips acc
          -∗ wp frame (wpE (defs₀ (F := F)) Variants.none c none) E (kk acc) Q)
        -∗ wp frame (wpE (defs₀ (F := F)) Variants.none c none) E
          (Scf.Loop.for k0_t1_loop k0_t1_ok ⟨⟩ (k0_t1_body i arg1 harg1 arg2 harg2 arg3 harg3 arg4 harg4 arg5 harg5) >>= kk) Q) :=
  exec_loop _ _ _ _ _ _ _ _ _ (loopInv_k0_t1 (F := F) Variants.none c none E i arg1 harg1 arg2 harg2 arg3 harg3 arg4 harg4 arg5 harg5 (harg2.unread x1) (harg3.unread x2) G)

/-- The second loop by its invariant. -/
theorem loop2 (G : arg4.view.ty.Contents (Elt F)) (E : Set ℕ) {β : Type} {kk : PUnit → Prog _ β} {Q : β → sProp 𝕄} :
    inv_k0_t2 (F := F) Variants.none c none i arg1 harg1 arg2 harg2 arg3 harg3 arg4 harg4 arg5 harg5 (harg1.unread x0) (harg5.unread W) G 0 PUnit.unit.{1}
      ⊢ iprop((∀ acc : PUnit.{1}, inv_k0_t2 (F := F) Variants.none c none i arg1 harg1 arg2 harg2 arg3 harg3 arg4 harg4 arg5 harg5 (harg1.unread x0) (harg5.unread W) G k0_t2_loop.trips acc
          -∗ wp frame (wpE (defs₀ (F := F)) Variants.none c none) E (kk acc) Q)
        -∗ wp frame (wpE (defs₀ (F := F)) Variants.none c none) E
          (Scf.Loop.for k0_t2_loop k0_t2_ok ⟨⟩ (k0_t2_body i arg1 harg1 arg2 harg2 arg3 harg3 arg4 harg4 arg5 harg5) >>= kk) Q) :=
  exec_loop _ _ _ _ _ _ _ _ _ (loopInv_k0_t2 (F := F) Variants.none c none E i arg1 harg1 arg2 harg2 arg3 harg3 arg4 harg4 arg5 harg5 (harg1.unread x0) (harg5.unread W) G)

/-- A grid step run from its three input blocks leaves the output block in the output's buffer. -/
theorem step_run (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (outp x0 (wts x1 x2)) ∗ (∃ d, owns (c : Thread nD τ) arg5 fullShare d)) -∗ K ⟨⟩))
      ⊢ wp frame (wpE (defs₀ (F := F)) Variants.none c none) E (cc0_any4_linear i arg1 harg1 arg2 harg2 arg3 harg3 arg4 harg4 arg5 harg5) K := by
  simp only [cc0_any4_linear_eq_skeleton]; unfold cc0_any4_linear_skel
  unfold owns
  iintro ⟨⟨%f0, %hf0, H0⟩, ⟨%f1, %hf1, H1⟩, ⟨%f2, %hf2, H2⟩, ⟨%d3, %f3, -, H3⟩, ⟨%ds0, %fs0, -, HS0⟩, Hk⟩
  obtain rfl := harg1.eq_unread hf0; obtain rfl := harg2.eq_unread hf1; obtain rfl := harg3.eq_unread hf2
  iapply (loop1 c i arg1 harg1 arg2 harg2 arg3 harg3 arg4 harg4 arg5 harg5 x1 x2 fs0 E) $$ [H1 H2 HS0]
  · isplitl [H1]; · iexact H1
    isplitl [H2]; · iexact H2
    iexists _; isplitl [HS0]; · iexact HS0
    ipureintro; rfl
  iintro %acc ⟨H1, H2, ⟨%fs1, HS0, %hs1⟩⟩
  obtain rfl := hs1.trans (after1 c i arg1 harg1 arg2 harg2 arg3 harg3 arg4 harg4 arg5 harg5 x1 x2 fs0)
  iapply (loop2 c i arg1 harg1 arg2 harg2 arg3 harg3 arg4 harg4 arg5 harg5 x0 (wts x1 x2) f3 E) $$ [H0 HS0 H3]
  · isplitl [H0]; · iexact H0
    isplitl [HS0]; · iexact HS0
    iexists _; isplitl [H3]; · iexact H3
    ipureintro; rfl
  iintro %acc2 ⟨H0, HS0, ⟨%f4, H3, %h4⟩⟩
  obtain rfl := h4.trans (after2 c i arg1 harg1 arg2 harg2 arg3 harg3 arg4 harg4 arg5 harg5 x0 (wts x1 x2) f3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _, _; isplitr; swap; · iexact HS0
  ipureintro; rfl

end Step

end Cert.KernelIdeal.Gen
-- ==== Proof.Run.lean ====
/- The kernel's launch run: what every buffer holds at the end, and that the arguments are unchanged. -/
module

public import proofs.«01_k».proof.Proof.Step

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- What the output's staging buffer holds after the body at point `t`: the output block of the point's input blocks. -/
def outsAt0 (c : Dev nD) (t : Fin cfg0.N) : Vec F S3072x512 .bf16 :=
  outp (iblk m c 0 t) (wts (iblk m c 1 t) (iblk m c 2 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold outsAt0
  iintro ⟨⟨HS0, Hg⟩, Ho, ⟨%d0, H0⟩, ⟨%d1, H1⟩, ⟨%d2, H2⟩, ⟨%d3, H3⟩⟩
  iapply (step_run c (grid0.coords t) _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  iintro ⟨H0, H1, H2, H3, HS0⟩
  isplitl [HS0 Hg]
  · isplitl [HS0]
    · iexact HS0
    iexact Hg
  isplitl [Ho]; · iexact Ho
  isplitl [H0]; · iexact H0
  isplitl [H1]; · iexact H1
  isplitl [H2]; · iexact H2
  iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame, at any `F`: every execution terminates, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.Frames.lean ====
/- The kernel as printed: it is the idealized kernel's program, at other values, so its frame is the same theorem. -/
module

public import proofs.«01_k».proof.Proof.Run
public import proofs.«01_k».proof.Proof.Gen.Kernel

@[expose] public section

set_option maxRecDepth 16384

noncomputable section

namespace Cert.Kernel.Gen

open Idealize.ShloMosaic Idealize.ShloMosaic.TcCoe Idealize.SL.Sem

variable {F : FTy → Type} [FloatOps F]

/-- The two programs' kernel bodies are one. -/
theorem bodies_eq : Cert.Kernel.defs₀ (F := F) = Cert.KernelIdeal.defs₀ (F := F) := by
  unfold Cert.Kernel.defs₀ Cert.KernelIdeal.defs₀
  refine congrArg _ ?_
  funext l a
  match l, a with
  | 0, (t, s) => rfl

/-- The two programs' body tables are one. -/
theorem tables_eq : Cert.Kernel.defs (F := F) = Cert.KernelIdeal.defs (F := F) :=
  congrArg (Pipeline.defs Cert.Kernel.pcfgs) bodies_eq

/-- The frame of the kernel as printed: every execution terminates, the arguments unchanged and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [tables_eq]
  exact Cert.KernelIdeal.Gen.frame m ρ

end Cert.Kernel.Gen

end
-- ==== Proof.Value.lean ====
/- The kernel's result array, at exact arithmetic: every element as a sum of activations times looked-up weights. -/
module

public import proofs.«01_k».proof.Proof.Run
public import Idealize.ShloMosaic.Lib.Claim
public import Idealize.ShloMosaic.Lib.Pipeline.ValueKit
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.Pipeline (Dat Cfg Window BodyObligation cellOf)

variable (m : (ℓ : Loc nD τ sig) → Buf (Elt Ideal) ℓ) (ρ : Dev nD → PrngReg)

/-- The output block of a grid step at row `r` and column `n`: the activations' row times the weights' column. -/
theorem outp_at (x0 : Vec Ideal S3072x4096 .bf16) (W : Vec Ideal S4096x512 .bf16) (r : Fin 3072) (n : Fin 512) :
    outp x0 W (ix2 r n) = ∑ k : Fin 4096, x0 (ix2 r k) * W (ix2 k n) := by
  have hr : 512 * (r.val / 512) + r.val % 512 = r.val := Nat.div_add_mod _ _
  unfold outp
  pointwise [k0_pay2]
  simp only [hr]

/-- The block indices of the four windows at every grid point. -/
theorem idx : ∀ t : Fin cfg0.N, win0_0.index t = ![0, 0] ∧ win0_1.index t = ![0, t.val] ∧ win0_2.index t = ![0, t.val]
    ∧ win0_3.index t = ![0, t.val] ∧ t.val < 28 := (by decide +kernel : ∀ t : Fin grid0.N, _)

/-- The two-dimensional result: row `r`, column `n` sums the activations' row `r` against column `n` of the weights. -/
def flat (X : Vec Ideal S3072x4096 .bf16) (P : Vec Ideal S4096x7168 .i8) (T : Vec Ideal S16x14336 .bf16) : Vec Ideal S3072x14336 .bf16 := fun y =>
  ∑ k : Fin 4096, X (ix2 (⟨(y 0).val, (y 0).isLt⟩ : Fin 3072) k)
    * T (ix2 (nib (P (ix2 k (⟨(y 1).val / 2, by have : (y 1).val < 14336 := (y 1).isLt; omega⟩ : Fin 7168))) ((y 1).val % 2)) (⟨(y 1).val, (y 1).isLt⟩ : Fin 14336))

/-- The two-dimensional result at row `r` and column `u`. -/
theorem flat_at (X : Vec Ideal S3072x4096 .bf16) (P : Vec Ideal S4096x7168 .i8) (T : Vec Ideal S16x14336 .bf16) (r : Fin 3072) (u : Fin 14336) :
    flat X P T (ix2 r u) = ∑ k : Fin 4096, X (ix2 r k) * T (ix2 (nib (P (ix2 k (⟨u.val / 2, by omega⟩ : Fin 7168))) (u.val % 2)) u) := rfl

/-- The weights of a grid step at row `k` and column `n`. -/
theorem wts_at (x1 : Vec Ideal S4096x256 .i8) (x2 : Vec Ideal S16x512 .bf16) (k : Fin 4096) (n : Fin 512) :
    wts x1 x2 (ix2 k n) = x2 (ix2 (nib (x1 (ix2 k (⟨n.val / 2, by omega⟩ : Fin 256))) (n.val % 2)) n) := rfl

/-- The array the grid writes, after the run. -/
theorem final (c : Dev nD) : (dats m 0 c).arrAt 3 cfg0.N = flat (V m c main_v0) (V m c main_arg1) (V m c main_v1) := by
  refine (dats m 0 c).arrAt_eq_of_covers 3 _ (by decide +kernel) fun t hf y => ?_
  blk_simp
  rw [after0_3]
  obtain ⟨e0, e1, e2, e3, ht⟩ := idx t
  obtain ⟨r, n, rfl⟩ : ∃ (r : Fin 3072) (n : Fin 512), y = ix2 r n := ⟨y 0, y 1, eq_ix2 y⟩
  unfold outsAt0
  refine (outp_at _ _ r n).trans ?_
  have hx (k : Fin 4096) : iblk m c 0 t (ix2 r k) = V m c main_v0 (ix2 r k) := by
    blk_ext [iblk, idx t]
  have hp (k : Fin 4096) (l : Fin 256) : iblk m c 1 t (ix2 k l) = V m c main_arg1 (ix2 k (⟨t.val * 256 + l.val, by omega⟩ : Fin 7168)) := by
    blk_ext [iblk, idx t]
  have ht (a : Fin 16) (l : Fin 512) : iblk m c 2 t (ix2 a l) = V m c main_v1 (ix2 a (⟨t.val * 512 + l.val, by omega⟩ : Fin 14336)) := by
    blk_ext [iblk, idx t]
  have hy : (win0_3.blk t).view.emb (ix2 r n) = ix2 r (⟨t.val * 512 + n.val, by omega⟩ : Fin 14336) := by
    blk_ext [idx t]
  rw [hy]
  refine Eq.trans ?_ (flat_at _ _ _ r _).symm
  refine Finset.sum_congr rfl fun k _ => ?_
  rw [hx k, wts_at, hp, ht]
  have d : (t.val * 512 + n.val) / 2 = t.val * 256 + n.val / 2 := by omega
  have q : (t.val * 512 + n.val) % 2 = n.val % 2 := by omega
  simp only [d, q]

/-- The product with the looked-up weights: what both programs compute, from the activations `x`, the packed bytes `p`
    and the table `w`. -/
def spec (x : Vec Ideal S2x1536x4096 .bf16) (p : Vec Ideal S4096x7168 .i8) (w : Vec Ideal S14336x16 .bf16) : Vec Ideal S2x1536x14336 .bf16 := fun y =>
  ∑ k : Fin 4096, x (ix3 (⟨(y 0).val, (y 0).isLt⟩ : Fin 2) (⟨(y 1).val, (y 1).isLt⟩ : Fin 1536) k)
    * w (ix2 (⟨(y 2).val, (y 2).isLt⟩ : Fin 14336)
      (nib (p (ix2 k (⟨(y 2).val / 2, by have : (y 2).val < 14336 := (y 2).isLt; omega⟩ : Fin 7168))) ((y 2).val % 2)))

/-- The result buffer after the last host line: the grid's array, its rows split in two batches. -/
theorem tail_v3 (c : Dev nD) : Pipeline.afterTail₀ cfgs (dats m) 0 (V0 m) [hostOps1] c main_v3
    = shapeCast S2x1536x14336 ((dats m 0 c).arrAt 3 cfg0.N) shapeCasts_S3072x14336_S2x1536x14336 := by
  unfold Pipeline.afterTail₀
  show StableHlo.after hostOps1 _ _ = _
  after_results
  exact congrArg (fun A => shapeCast S2x1536x14336 A shapeCasts_S3072x14336_S2x1536x14336)
    (Pipeline.withArrays_arr spec0 (by decide) c (V0 m c) (fun w => (dats m 0 c).arrAt w cfg0.N) 3)

/-- The activations as the grid finds them: the argument, its two batches stacked. -/
theorem V_v0 (c : Dev nD) : V m c main_v0 = shapeCast S3072x4096 (m ((c.tc : Thread nD τ).loc main_arg0)) shapeCasts_S2x1536x4096_S3072x4096 := by
  show StableHlo.after hostOps0 (fun b => m (c, b)) (Proc.devRef .tc main_v0) = _
  after_results
  rfl

/-- The table as the grid finds it: the argument, transposed. -/
theorem V_v1 (c : Dev nD) : V m c main_v1 = transpose S16x14336 [1, 0] (m ((c.tc : Thread nD τ).loc main_arg2)) transposes_S14336x16_S16x14336_1_0 := by
  show StableHlo.after hostOps0 (fun b => m (c, b)) (Proc.devRef .tc main_v1) = _
  after_results

/-- The stacked activations at row `b * 1536 + s`. -/
theorem rows_at (x : Vec Ideal S2x1536x4096 .bf16) (b : Fin 2) (s : Fin 1536) (k : Fin 4096) :
    shapeCast S3072x4096 x shapeCasts_S2x1536x4096_S3072x4096 (ix2 (⟨b.val * 1536 + s.val, by omega⟩ : Fin 3072) k) = x (ix3 b s k) := by
  pointwise

/-- The transposed table at an entry. -/
theorem cols_at (w : Vec Ideal S14336x16 .bf16) (a : Fin 16) (n : Fin 14336) :
    transpose S16x14336 [1, 0] w transposes_S14336x16_S16x14336_1_0 (ix2 a n) = w (ix2 n a) := by
  pointwise

/-- An array of 3072 rows split in two batches. -/
theorem split_at (Y : Vec Ideal S3072x14336 .bf16) (b : Fin 2) (s : Fin 1536) (n : Fin 14336) :
    shapeCast S2x1536x14336 Y shapeCasts_S3072x14336_S2x1536x14336 (ix3 b s n) = Y (ix2 (⟨b.val * 1536 + s.val, by omega⟩ : Fin 3072) n) := by
  pointwise

/-- `spec` at batch `b`, row `s` and column `n`. -/
theorem spec_at (x : Vec Ideal S2x1536x4096 .bf16) (p : Vec Ideal S4096x7168 .i8) (w : Vec Ideal S14336x16 .bf16) (b : Fin 2) (s : Fin 1536) (n : Fin 14336) :
    spec x p w (ix3 b s n) = ∑ k : Fin 4096, x (ix3 b s k) * w (ix2 n (nib (p (ix2 k (⟨n.val / 2, by omega⟩ : Fin 7168))) (n.val % 2))) := rfl

/-- The two-dimensional result of the stacked activations and the transposed table, split in two batches, is `spec`. -/
theorem split_flat (x : Vec Ideal S2x1536x4096 .bf16) (p : Vec Ideal S4096x7168 .i8) (w : Vec Ideal S14336x16 .bf16) :
    shapeCast S2x1536x14336 (flat (shapeCast S3072x4096 x shapeCasts_S2x1536x4096_S3072x4096) p
      (transpose S16x14336 [1, 0] w transposes_S14336x16_S16x14336_1_0)) shapeCasts_S3072x14336_S2x1536x14336 = spec x p w := by
  funext y
  obtain ⟨b, s, n, rfl⟩ : ∃ (b : Fin 2) (s : Fin 1536) (n : Fin 14336), y = ix3 b s n := ⟨y 0, y 1, y 2, eq_ix3 y⟩
  rw [split_at, spec_at, flat_at]
  exact Finset.sum_congr rfl fun k _ => by rw [rows_at, cols_at]

/-- The kernel's result array is `spec` of the arguments. -/
theorem result (c : Dev nD) : shapeCast S2x1536x14336 ((dats m 0 c).arrAt 3 cfg0.N) shapeCasts_S3072x14336_S2x1536x14336
    = spec (m ((c.tc : Thread nD τ).loc main_arg0)) (m ((c.tc : Thread nD τ).loc main_arg1)) (m ((c.tc : Thread nD τ).loc main_arg2)) := by
  rw [final, V_v0, V_v1, V_main_arg1]
  exact split_flat _ _ _

/-- Every execution of the kernel ends with its result at `spec` of the arguments. -/
theorem run_spec : θ_run defs (onTc (τ := τ) (main (F := Ideal))) ⟨m, fun _ => 0, ρ⟩ (fun r => ∀ c : Dev nD,
      r.2.mem ((c.tc : Thread nD τ).loc main_v3) = spec (m ((c.tc : Thread nD τ).loc main_arg0)) (m ((c.tc : Thread nD τ).loc main_arg1)) (m ((c.tc : Thread nD τ).loc main_arg2))) :=
  (θ_run defs _ _).mono (fun _ h c => ((h c).2 main_v3 (Pipeline.mem_restRefs_of main_v3 (by decide) (by decide))).trans ((tail_v3 m c).trans (result m c)))
    (run_main m ρ)

end Cert.KernelIdeal.Gen

end
-- ==== Proof.Reference.lean ====
/- The reference's result array, at exact arithmetic: the product with the looked-up weights. -/
module

public import proofs.«01_k».proof.Proof.Value
public import proofs.«01_k».proof.Proof.Gen.ReferenceIdeal.Run

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.KernelIdeal.Gen (nib spec spec_at)

/-- A number at every entry. -/
abbrev all (b : BitVec 32) : IVec S4096x7168 32 := broadcastInDim S4096x7168 ![] bcast_S_S4096x7168 (constantI S_ 32 b)

/-- Whether bit `b` of each code is set. -/
def bit (C : IVec S4096x7168 32) (b : BitVec 32) : IVec S4096x7168 1 := cmpi .eq (andi (Host.shrsi C (all b)) (all 1#32)) (all 1#32)

theorem bit_at (C : IVec S4096x7168 32) (b : BitVec 32) (k : Fin 4096) (j : Fin 7168) :
    bit C b (ix2 k j) = IntOp.cmpi .eq (IntOp.andi (IntOp.shrsi .host (C (ix2 k j)) b) 1#32) 1#32 := by
  unfold bit
  pointwise

/-- Row `n` of a table, on every row of the weights. -/
def row (T : Vec Ideal S16x7168 .bf16) (n : ℕ) (h : S16x7168.Slices ![n, 0] S1x7168) : FVec Ideal S4096x7168 .bf16 :=
  broadcastInDim S4096x7168 ![0, 1] bcast_S1x7168_S4096x7168_0_1 (extractStridedSlice S1x7168 ![n, 0] T h)

theorem row_at (T : Vec Ideal S16x7168 .bf16) (n : ℕ) (h : S16x7168.Slices ![n, 0] S1x7168) (hn : n < 16) (k : Fin 4096) (j : Fin 7168) :
    row T n h (ix2 k j) = T (ix2 (⟨n, hn⟩ : Fin 16) j) := by
  unfold row
  pointwise

/-- The weights of a table `T` at codes `C`, chosen bit by bit. -/
def decode (C : IVec S4096x7168 32) (T : Vec Ideal S16x7168 .bf16) : FVec Ideal S4096x7168 .bf16 :=
  select (bit C 3#32)
    (select (bit C 2#32)
      (select (bit C 1#32) (select (bit C 0#32) (row T 15 slices_S16x7168_S1x7168_15_0) (row T 14 slices_S16x7168_S1x7168_14_0)) (select (bit C 0#32) (row T 13 slices_S16x7168_S1x7168_13_0) (row T 12 slices_S16x7168_S1x7168_12_0)))
      (select (bit C 1#32) (select (bit C 0#32) (row T 11 slices_S16x7168_S1x7168_11_0) (row T 10 slices_S16x7168_S1x7168_10_0)) (select (bit C 0#32) (row T 9 slices_S16x7168_S1x7168_9_0) (row T 8 slices_S16x7168_S1x7168_8_0))))
    (select (bit C 2#32)
      (select (bit C 1#32) (select (bit C 0#32) (row T 7 slices_S16x7168_S1x7168_7_0) (row T 6 slices_S16x7168_S1x7168_6_0)) (select (bit C 0#32) (row T 5 slices_S16x7168_S1x7168_5_0) (row T 4 slices_S16x7168_S1x7168_4_0)))
      (select (bit C 1#32) (select (bit C 0#32) (row T 3 slices_S16x7168_S1x7168_3_0) (row T 2 slices_S16x7168_S1x7168_2_0)) (select (bit C 0#32) (row T 1 slices_S16x7168_S1x7168_1_0) (row T 0 slices_S16x7168_S1x7168_0_0))))

/-- The activations times a half of the weights' columns. -/
def half (x : Vec Ideal S2x1536x4096 .bf16) (W : FVec Ideal S4096x7168 .bf16) : FVec Ideal S2x1536x7168 .f32 :=
  Host.dotGeneral (φ₁ := .bf16) dot_S2x1536x4096_S4096x7168_S2x1536x7168_2_0_01_1_n_n none x W

theorem half_at (x : Vec Ideal S2x1536x4096 .bf16) (W : FVec Ideal S4096x7168 .bf16) (b : Fin 2) (s : Fin 1536) (j : Fin 7168) :
    half x W (ix3 b s j) = ∑ k : Fin 4096, x (ix3 b s k) * W (ix2 k j) := by
  unfold half
  pointwise

/-- Two halves side by side along a new last axis. -/
def join (A B : FVec Ideal S2x1536x7168 .f32) : FVec Ideal S2x1536x7168x2 .f32 :=
  concatenate S2x1536x7168x2 3
    [⟨S2x1536x7168x1, (broadcastInDim S2x1536x7168x1 ![0, 1, 2] bcast_S2x1536x7168_S2x1536x7168x1_0_1_2 A)⟩,
     ⟨S2x1536x7168x1, (broadcastInDim S2x1536x7168x1 ![0, 1, 2] bcast_S2x1536x7168_S2x1536x7168x1_0_1_2 B)⟩]
    concatenates_S2x1536x7168x1_S2x1536x7168x1_S2x1536x7168x2_d3

theorem join_at (A B : FVec Ideal S2x1536x7168 .f32) (b : Fin 2) (s : Fin 1536) (j : Fin 7168) (p : Fin 2) :
    join A B (ix4 b s j p) = if p.val < 1 then A (ix3 b s j) else B (ix3 b s j) := by
  unfold join
  pointwise
  rfl

/-- The last two axes merged: column `2 * j + p`. -/
theorem merge_at (Z : FVec Ideal S2x1536x7168x2 .f32) (b : Fin 2) (s : Fin 1536) (n : Fin 14336) :
    shapeCast S2x1536x14336 Z shapeCasts_S2x1536x7168x2_S2x1536x14336 (ix3 b s n)
      = Z (ix4 b s (⟨n.val / 2, by omega⟩ : Fin 7168) (⟨n.val % 2, by omega⟩ : Fin 2)) := by
  pointwise

/-- Two halves interleaved: column `2 * j + p` is column `j` of half `p`. -/
def weave (A B : FVec Ideal S2x1536x7168 .f32) : FVec Ideal S2x1536x14336 .bf16 :=
  truncf .bf16 (shapeCast S2x1536x14336 (join A B) shapeCasts_S2x1536x7168x2_S2x1536x14336) bitsLt_bf16_f32

/-- Over the reals a change of format keeps every element. -/
theorem truncf_at (Z : FVec Ideal S2x1536x14336 .f32) (i : S2x1536x14336.Idx) : truncf .bf16 Z bitsLt_bf16_f32 i = Z i := rfl

theorem weave_at (A B : FVec Ideal S2x1536x7168 .f32) (b : Fin 2) (s : Fin 1536) (n : Fin 14336) :
    weave A B (ix3 b s n) = if n.val % 2 < 1 then A (ix3 b s (⟨n.val / 2, by omega⟩ : Fin 7168)) else B (ix3 b s (⟨n.val / 2, by omega⟩ : Fin 7168)) := by
  unfold weave
  rw [truncf_at, merge_at, join_at]

/-- The result is the two halves, even columns and odd columns of the weights, interleaved. -/
theorem res_eq (V0 : Valuation τ sig (Elt Ideal)) :
    truncf .bf16 (shapeCast S2x1536x14336 (res_main_v124 V0) shapeCasts_S2x1536x7168x2_S2x1536x14336) bitsLt_bf16_f32
      = weave (half (V0 (Proc.devRef .tc main_arg0)) (decode (res_main_v2 V0) (res_main_v7 V0)))
          (half (V0 (Proc.devRef .tc main_arg0)) (decode (res_main_v5 V0) (res_main_v64 V0))) := rfl

/-- The choice among sixteen entries by the four bits of a code. -/
def choose {α : Type} (c : BitVec 32) (t : Fin 16 → α) : α :=
  let s (b : BitVec 32) (x y : α) := Scalar.select (IntOp.cmpi .eq (IntOp.andi (IntOp.shrsi .host c b) 1#32) 1#32) x y
  s 3#32
    (s 2#32
      (s 1#32 (s 0#32 (t 15) (t 14)) (s 0#32 (t 13) (t 12)))
      (s 1#32 (s 0#32 (t 11) (t 10)) (s 0#32 (t 9) (t 8))))
    (s 2#32
      (s 1#32 (s 0#32 (t 7) (t 6)) (s 0#32 (t 5) (t 4)))
      (s 1#32 (s 0#32 (t 3) (t 2)) (s 0#32 (t 1) (t 0))))

/-- A code chooses its own entry. -/
theorem choose_at {α : Type} (n : Fin 16) (t : Fin 16 → α) : choose (BitVec.ofNat 32 n.val) t = t n := by
  fin_cases n <;> rfl

/-- The decoded weight is the table's entry at the code. -/
theorem decode_at (C : IVec S4096x7168 32) (T : Vec Ideal S16x7168 .bf16) (k : Fin 4096) (j : Fin 7168) (n : Fin 16)
    (hn : C (ix2 k j) = BitVec.ofNat 32 n.val) : decode C T (ix2 k j) = T (ix2 n j) := by
  refine Eq.trans ?_ (choose_at n fun a => T (ix2 a j))
  rw [← hn]
  unfold decode choose
  simp only [select, bit_at]
  simp only [row_at T 0 _ (by decide), row_at T 1 _ (by decide), row_at T 2 _ (by decide), row_at T 3 _ (by decide),
    row_at T 4 _ (by decide), row_at T 5 _ (by decide), row_at T 6 _ (by decide), row_at T 7 _ (by decide),
    row_at T 8 _ (by decide), row_at T 9 _ (by decide), row_at T 10 _ (by decide), row_at T 11 _ (by decide),
    row_at T 12 _ (by decide), row_at T 13 _ (by decide), row_at T 14 _ (by decide), row_at T 15 _ (by decide)]
  rfl

/-- A byte's two codes, as the reference takes them. -/
theorem low_code (b : BitVec 8) : IntOp.andi (b.zeroExtend 32) 15#32 = BitVec.ofNat 32 (nib b 0).val := by
  have := (by decide +kernel : ∀ n : Fin 256, IntOp.andi ((BitVec.ofFin (w := 8) n).zeroExtend 32) 15#32 = BitVec.ofNat 32 (nib (BitVec.ofFin (w := 8) n) 0).val)
  exact this b.toFin

theorem high_code (b : BitVec 8) : IntOp.shrsi .host (b.zeroExtend 32) 4#32 = BitVec.ofNat 32 (nib b 1).val := by
  have := (by decide +kernel : ∀ n : Fin 256, IntOp.shrsi .host ((BitVec.ofFin (w := 8) n).zeroExtend 32) 4#32 = BitVec.ofNat 32 (nib (BitVec.ofFin (w := 8) n) 1).val)
  exact this b.toFin

variable (V0 : Valuation τ sig (Elt Ideal))

theorem v2_at (k : Fin 4096) (j : Fin 7168) :
    res_main_v2 V0 (ix2 k j) = BitVec.ofNat 32 (nib (V0 (Proc.devRef .tc main_arg1) (ix2 k j)) 0).val := by
  rw [← low_code]
  rfl

theorem v5_at (k : Fin 4096) (j : Fin 7168) :
    res_main_v5 V0 (ix2 k j) = BitVec.ofNat 32 (nib (V0 (Proc.devRef .tc main_arg1) (ix2 k j)) 1).val := by
  rw [← high_code]
  rfl

theorem v7_at (n : Fin 16) (j : Fin 7168) :
    res_main_v7 V0 (ix2 n j) = V0 (Proc.devRef .tc main_arg2) (ix2 (⟨2 * j.val, by omega⟩ : Fin 14336) n) := by
  unfold res_main_v7
  pointwise

theorem v64_at (n : Fin 16) (j : Fin 7168) :
    res_main_v64 V0 (ix2 n j) = V0 (Proc.devRef .tc main_arg2) (ix2 (⟨1 + 2 * j.val, by omega⟩ : Fin 14336) n) := by
  unfold res_main_v64
  pointwise

/-- The reference's result is `spec` of the arguments. -/
theorem res_spec :
    truncf .bf16 (shapeCast S2x1536x14336 (res_main_v124 V0) shapeCasts_S2x1536x7168x2_S2x1536x14336) bitsLt_bf16_f32
      = spec (V0 (Proc.devRef .tc main_arg0)) (V0 (Proc.devRef .tc main_arg1)) (V0 (Proc.devRef .tc main_arg2)) := by
  rw [res_eq]
  funext y
  obtain ⟨b, s, n, rfl⟩ : ∃ (b : Fin 2) (s : Fin 1536) (n : Fin 14336), y = ix3 b s n := ⟨y 0, y 1, y 2, eq_ix3 y⟩
  refine (weave_at _ _ b s n).trans (Eq.trans ?_ (spec_at _ _ _ b s n).symm)
  rcases Nat.mod_two_eq_zero_or_one n.val with h | h
  · have e : (⟨2 * (n.val / 2), by omega⟩ : Fin 14336) = n := Fin.ext (by show 2 * (n.val / 2) = n.val; omega)
    rw [if_pos (by omega), half_at, h]
    refine Finset.sum_congr rfl fun k _ => ?_
    rw [decode_at _ _ _ _ _ (v2_at V0 k _), v7_at, e]
  · have e : (⟨1 + 2 * (n.val / 2), by omega⟩ : Fin 14336) = n := Fin.ext (by show 1 + 2 * (n.val / 2) = n.val; omega)
    rw [if_neg (by omega), half_at, h]
    refine Finset.sum_congr rfl fun k _ => ?_
    rw [decode_at _ _ _ _ _ (v5_at V0 k _), v64_at, e]

end Cert.ReferenceIdeal.Value

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The reference runs, its arguments end unchanged, and every counter ends at zero: it has none. -/
theorem reference_frame : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- Over the extended reals, kernel and reference end with the same array: `spec` of the kernel's arguments. -/
theorem algebraic : Cert.algebraic_KernelIdeal_ReferenceIdeal := fun m g m' g' _ hagree =>
  ⟨fun c => Cert.KernelIdeal.Gen.spec (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    (θ_run Cert.KernelIdeal.defs _ _).mono (fun _ h c => ⟨h.1 c, h.2 c⟩)
      (θ_run_and (Cert.KernelIdeal.Gen.run_spec m g) (Cert.KernelIdeal.Gen.unchanged m g)),
    (θ_run Cert.ReferenceIdeal.defs _ _).mono
      (fun _ h c => ⟨by
        refine (h c).1.trans ((Cert.ReferenceIdeal.Value.res_spec (StableHlo.launchContents m' c)).trans ?_)
        show Cert.KernelIdeal.Gen.spec (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2)) = _
        rw [(hagree c).1, (hagree c).2.1, (hagree c).2.2], (h c).2⟩)
      (Cert.ReferenceIdeal.Value.run (F := Ideal) m' g')⟩

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, algebraic⟩

end Cert.Proof

end
